-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x128x768 : Shape := ⟨3, ![4, 128, 768]⟩
abbrev S491520x768 : Shape := ⟨2, ![491520, 768]⟩
abbrev S491520 : Shape := ⟨1, ![491520]⟩
abbrev S512x768 : Shape := ⟨2, ![512, 768]⟩
abbrev S3840x128 : Shape := ⟨2, ![3840, 128]⟩
abbrev S512x100 : Shape := ⟨2, ![512, 100]⟩
abbrev S2048x768 : Shape := ⟨2, ![2048, 768]⟩
abbrev S768x512 : Shape := ⟨2, ![768, 512]⟩
abbrev S4x128x8x128 : Shape := ⟨4, ![4, 128, 8, 128]⟩
abbrev S8x128 : Shape := ⟨2, ![8, 128]⟩
abbrev S128x8 : Shape := ⟨2, ![128, 8]⟩
abbrev S256x768 : Shape := ⟨2, ![256, 768]⟩
abbrev S256x512 : Shape := ⟨2, ![256, 512]⟩
abbrev S8x1 : Shape := ⟨2, ![8, 1]⟩
abbrev S1x8x128 : Shape := ⟨3, ![1, 8, 128]⟩
abbrev S32x8x128 : Shape := ⟨3, ![32, 8, 128]⟩
abbrev S2x8x128 : Shape := ⟨3, ![2, 8, 128]⟩
abbrev S1x2x1x8x128 : Shape := ⟨5, ![1, 2, 1, 8, 128]⟩
abbrev S1x1x1x8x128 : Shape := ⟨5, ![1, 1, 1, 8, 128]⟩
abbrev S1x1x8x128 : Shape := ⟨4, ![1, 1, 8, 128]⟩
abbrev S4x8x128 : Shape := ⟨3, ![4, 8, 128]⟩
abbrev S1x2x2x8x128 : Shape := ⟨5, ![1, 2, 2, 8, 128]⟩
abbrev S1x1x2x8x128 : Shape := ⟨5, ![1, 1, 2, 8, 128]⟩
abbrev S1x2x8x128 : Shape := ⟨4, ![1, 2, 8, 128]⟩
abbrev S2x2x1x8x128 : Shape := ⟨5, ![2, 2, 1, 8, 128]⟩
abbrev S2x1x1x8x128 : Shape := ⟨5, ![2, 1, 1, 8, 128]⟩
abbrev S2x1x8x128 : Shape := ⟨4, ![2, 1, 8, 128]⟩
abbrev S8x8x128 : Shape := ⟨3, ![8, 8, 128]⟩
abbrev S1x2x4x8x128 : Shape := ⟨5, ![1, 2, 4, 8, 128]⟩
abbrev S1x1x4x8x128 : Shape := ⟨5, ![1, 1, 4, 8, 128]⟩
abbrev S1x4x8x128 : Shape := ⟨4, ![1, 4, 8, 128]⟩
abbrev S2x2x2x8x128 : Shape := ⟨5, ![2, 2, 2, 8, 128]⟩
abbrev S2x1x2x8x128 : Shape := ⟨5, ![2, 1, 2, 8, 128]⟩
abbrev S2x2x8x128 : Shape := ⟨4, ![2, 2, 8, 128]⟩
abbrev S4x2x1x8x128 : Shape := ⟨5, ![4, 2, 1, 8, 128]⟩
abbrev S4x1x1x8x128 : Shape := ⟨5, ![4, 1, 1, 8, 128]⟩
abbrev S4x1x8x128 : Shape := ⟨4, ![4, 1, 8, 128]⟩
abbrev S16x8x128 : Shape := ⟨3, ![16, 8, 128]⟩
abbrev S1x2x8x8x128 : Shape := ⟨5, ![1, 2, 8, 8, 128]⟩
abbrev S1x1x8x8x128 : Shape := ⟨5, ![1, 1, 8, 8, 128]⟩
abbrev S1x8x8x128 : Shape := ⟨4, ![1, 8, 8, 128]⟩
abbrev S2x2x4x8x128 : Shape := ⟨5, ![2, 2, 4, 8, 128]⟩
abbrev S2x1x4x8x128 : Shape := ⟨5, ![2, 1, 4, 8, 128]⟩
abbrev S2x4x8x128 : Shape := ⟨4, ![2, 4, 8, 128]⟩
abbrev S4x2x2x8x128 : Shape := ⟨5, ![4, 2, 2, 8, 128]⟩
abbrev S4x1x2x8x128 : Shape := ⟨5, ![4, 1, 2, 8, 128]⟩
abbrev S4x2x8x128 : Shape := ⟨4, ![4, 2, 8, 128]⟩
abbrev S8x2x1x8x128 : Shape := ⟨5, ![8, 2, 1, 8, 128]⟩
abbrev S8x1x1x8x128 : Shape := ⟨5, ![8, 1, 1, 8, 128]⟩
abbrev S8x1x8x128 : Shape := ⟨4, ![8, 1, 8, 128]⟩
abbrev S1x2x16x8x128 : Shape := ⟨5, ![1, 2, 16, 8, 128]⟩
abbrev S1x1x16x8x128 : Shape := ⟨5, ![1, 1, 16, 8, 128]⟩
abbrev S1x16x8x128 : Shape := ⟨4, ![1, 16, 8, 128]⟩
abbrev S2x2x8x8x128 : Shape := ⟨5, ![2, 2, 8, 8, 128]⟩
abbrev S2x1x8x8x128 : Shape := ⟨5, ![2, 1, 8, 8, 128]⟩
abbrev S2x8x8x128 : Shape := ⟨4, ![2, 8, 8, 128]⟩
abbrev S4x2x4x8x128 : Shape := ⟨5, ![4, 2, 4, 8, 128]⟩
abbrev S4x1x4x8x128 : Shape := ⟨5, ![4, 1, 4, 8, 128]⟩
abbrev S4x4x8x128 : Shape := ⟨4, ![4, 4, 8, 128]⟩
abbrev S8x2x2x8x128 : Shape := ⟨5, ![8, 2, 2, 8, 128]⟩
abbrev S8x1x2x8x128 : Shape := ⟨5, ![8, 1, 2, 8, 128]⟩
abbrev S8x2x8x128 : Shape := ⟨4, ![8, 2, 8, 128]⟩
abbrev S16x2x1x8x128 : Shape := ⟨5, ![16, 2, 1, 8, 128]⟩
abbrev S16x1x1x8x128 : Shape := ⟨5, ![16, 1, 1, 8, 128]⟩
abbrev S16x1x8x128 : Shape := ⟨4, ![16, 1, 8, 128]⟩
abbrev S1x128x8x128 : Shape := ⟨4, ![1, 128, 8, 128]⟩
abbrev S128x8x128 : Shape := ⟨3, ![128, 8, 128]⟩
abbrev S96x8x128 : Shape := ⟨3, ![96, 8, 128]⟩
abbrev S1x2x64x8x128 : Shape := ⟨5, ![1, 2, 64, 8, 128]⟩
abbrev S1x1x64x8x128 : Shape := ⟨5, ![1, 1, 64, 8, 128]⟩
abbrev S1x64x8x128 : Shape := ⟨4, ![1, 64, 8, 128]⟩
abbrev S2x2x32x8x128 : Shape := ⟨5, ![2, 2, 32, 8, 128]⟩
abbrev S2x1x32x8x128 : Shape := ⟨5, ![2, 1, 32, 8, 128]⟩
abbrev S2x32x8x128 : Shape := ⟨4, ![2, 32, 8, 128]⟩
abbrev S4x2x16x8x128 : Shape := ⟨5, ![4, 2, 16, 8, 128]⟩
abbrev S4x1x16x8x128 : Shape := ⟨5, ![4, 1, 16, 8, 128]⟩
abbrev S4x16x8x128 : Shape := ⟨4, ![4, 16, 8, 128]⟩
abbrev S8x2x8x8x128 : Shape := ⟨5, ![8, 2, 8, 8, 128]⟩
abbrev S8x1x8x8x128 : Shape := ⟨5, ![8, 1, 8, 8, 128]⟩
abbrev S8x8x8x128 : Shape := ⟨4, ![8, 8, 8, 128]⟩
abbrev S16x2x4x8x128 : Shape := ⟨5, ![16, 2, 4, 8, 128]⟩
abbrev S16x1x4x8x128 : Shape := ⟨5, ![16, 1, 4, 8, 128]⟩
abbrev S16x4x8x128 : Shape := ⟨4, ![16, 4, 8, 128]⟩
abbrev S32x2x2x8x128 : Shape := ⟨5, ![32, 2, 2, 8, 128]⟩
abbrev S32x1x2x8x128 : Shape := ⟨5, ![32, 1, 2, 8, 128]⟩
abbrev S32x2x8x128 : Shape := ⟨4, ![32, 2, 8, 128]⟩
abbrev S64x2x1x8x128 : Shape := ⟨5, ![64, 2, 1, 8, 128]⟩
abbrev S64x1x1x8x128 : Shape := ⟨5, ![64, 1, 1, 8, 128]⟩
abbrev S64x1x8x128 : Shape := ⟨4, ![64, 1, 8, 128]⟩
abbrev S128x1x128 : Shape := ⟨3, ![128, 1, 128]⟩
abbrev S128x128 : Shape := ⟨2, ![128, 128]⟩
abbrev S128x100 : Shape := ⟨2, ![128, 100]⟩

abbrev nBuf : Space → Nat
  | .hbm => 6
  | .vmem => 7
  | .smem => 0
  | _ => 0

abbrev bufTy : (tb : Table) → Fin (tcTables nBuf tb) → BufTy
  | .hbm, ⟨0, _⟩ => ⟨S4x128x768, .bf16⟩
  | .hbm, ⟨1, _⟩ => ⟨S491520x768, .i8⟩
  | .hbm, ⟨2, _⟩ => ⟨S491520, .f32⟩
  | .hbm, ⟨3, _⟩ => ⟨S512x768, .bf16⟩
  | .hbm, ⟨4, _⟩ => ⟨S3840x128, .f32⟩
  | .hbm, ⟨5, _⟩ => ⟨S512x100, .f32⟩
  | .local _ .vmem, ⟨0, _⟩ => ⟨S512x768, .bf16⟩
  | .local _ .vmem, ⟨1, _⟩ => ⟨S2048x768, .i8⟩
  | .local _ .vmem, ⟨2, _⟩ => ⟨S2048x768, .i8⟩
  | .local _ .vmem, ⟨3, _⟩ => ⟨S3840x128, .f32⟩
  | .local _ .vmem, ⟨4, _⟩ => ⟨S512x100, .f32⟩
  | .local _ .vmem, ⟨5, _⟩ => ⟨S768x512, .bf16⟩
  | .local _ .vmem, ⟨6, _⟩ => ⟨S4x128x8x128, .f32⟩
  | _, _ => ⟨S4x128x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![240], ![false]⟩

@[reducible] def k0_t1_loop : Scf.Loop 32 :=
  let c0_i32_1 : BitVec 32 := 0#32
  let c2_i32 : BitVec 32 := 2#32
  let v3 : BitVec 32 := Scalar.addi c0_i32_1 c2_i32
  let c1_i32 : BitVec 32 := 1#32
  ⟨c0_i32_1, v3, c1_i32⟩
def k0_mult1 (i : grid0.Coords) (k0_t1 : Fin k0_t1_loop.trips) : BitVec 32 :=
  let arg0 : BitVec 32 := BitVec.ofNat 32 (i 0).val
  let c2_i32_4 : BitVec 32 := 2#32
  let v7 : BitVec 32 := Scalar.muli arg0 c2_i32_4
  let c0_i32_1 : BitVec 32 := 0#32
  let c1_i32 : BitVec 32 := 1#32
  let arg7 : BitVec 32 := Scf.iv c0_i32_1 c1_i32 k0_t1
  let v8 : BitVec 32 := Scalar.addi v7 arg7
  let c8_i32 : BitVec 32 := 8#32
  let v9 : BitVec 32 := Scalar.muli v8 c8_i32
  v9
def k0_off1 (i : grid0.Coords) (k0_t1 : Fin k0_t1_loop.trips) : Fin 2 → Nat :=
  let arg0 : BitVec 32 := BitVec.ofNat 32 (i 0).val
  let c2_i32_4 : BitVec 32 := 2#32
  let v7 : BitVec 32 := Scalar.muli arg0 c2_i32_4
  let c0_i32_1 : BitVec 32 := 0#32
  let c1_i32 : BitVec 32 := 1#32
  let arg7 : BitVec 32 := Scf.iv c0_i32_1 c1_i32 k0_t1
  let v8 : BitVec 32 := Scalar.addi v7 arg7
  let c8_i32 : BitVec 32 := 8#32
  let v9 : BitVec 32 := Scalar.muli v8 c8_i32
  let v10 : BitVec 32 := v9
  let v11 : Index := Scalar.indexCast v10
  let c0 : Index := 0#32
  ![v11.toNat, 0]
def k0_mult2 (k0_t1 : Fin k0_t1_loop.trips) : BitVec 32 :=
  let c0_i32_1 : BitVec 32 := 0#32
  let c1_i32 : BitVec 32 := 1#32
  let arg7 : BitVec 32 := Scf.iv c0_i32_1 c1_i32 k0_t1
  let c1024_i32 : BitVec 32 := 1024#32
  let v15 : BitVec 32 := Scalar.muli arg7 c1024_i32
  v15
def k0_off2 (k0_t1 : Fin k0_t1_loop.trips) (c0_i32_5 : BitVec 32) : Fin 2 → Nat :=
  let c0_i32_1 : BitVec 32 := 0#32
  let c1_i32 : BitVec 32 := 1#32
  let arg7 : BitVec 32 := Scf.iv c0_i32_1 c1_i32 k0_t1
  let c1024_i32 : BitVec 32 := 1024#32
  let v15 : BitVec 32 := Scalar.muli arg7 c1024_i32
  let v16 : BitVec 32 := v15
  let v17 : BitVec 32 := Scalar.addi v16 c0_i32_5
  let v18 : Index := Scalar.indexCast v17
  let c0_6 : Index := 0#32
  ![v18.toNat, 0]
def k0_mult3 (k0_t1 : Fin k0_t1_loop.trips) : BitVec 32 :=
  let c0_i32_1 : BitVec 32 := 0#32
  let c1_i32 : BitVec 32 := 1#32
  let arg7 : BitVec 32 := Scf.iv c0_i32_1 c1_i32 k0_t1
  let c1024_i32_38 : BitVec 32 := 1024#32
  let v5507 : BitVec 32 := Scalar.muli arg7 c1024_i32_38
  v5507
def k0_mult4 (k0_t1 : Fin k0_t1_loop.trips) : BitVec 32 :=
  let c0_i32_1 : BitVec 32 := 0#32
  let c1_i32 : BitVec 32 := 1#32
  let arg7 : BitVec 32 := Scf.iv c0_i32_1 c1_i32 k0_t1
  let c1024_i32_75 : BitVec 32 := 1024#32
  let v10999 : BitVec 32 := Scalar.muli arg7 c1024_i32_75
  v10999
def k0_mult5 (k0_t1 : Fin k0_t1_loop.trips) : BitVec 32 :=
  let c0_i32_1 : BitVec 32 := 0#32
  let c1_i32 : BitVec 32 := 1#32
  let arg7 : BitVec 32 := Scf.iv c0_i32_1 c1_i32 k0_t1
  let c1024_i32_112 : BitVec 32 := 1024#32
  let v16491 : BitVec 32 := Scalar.muli arg7 c1024_i32_112
  v16491
def k0_cond2 (i : grid0.Coords) : BitVec 1 :=
  let arg0 : BitVec 32 := BitVec.ofNat 32 (i 0).val
  let c239_i32 : BitVec 32 := 239#32
  let v4 : BitVec 1 := Scalar.cmpi .eq arg0 c239_i32
  let v5 : BitVec 32 := Scalar.extui v4
  let c0_i32_3 : BitVec 32 := 0#32
  let v6 : BitVec 1 := Scalar.cmpi .ne v5 c0_i32_3
  v6

@[reducible] def k0_t2_loop : Scf.Loop 32 :=
  let c0_i32_4 : BitVec 32 := 0#32
  let c4_i32 : BitVec 32 := 4#32
  let v7 : BitVec 32 := Scalar.addi c0_i32_4 c4_i32
  let c1_i32_5 : BitVec 32 := 1#32
  ⟨c0_i32_4, v7, c1_i32_5⟩
def k0_off3 (k0_t2 : Fin k0_t2_loop.trips) : Fin 4 → Nat :=
  let c0_i32_4 : BitVec 32 := 0#32
  let c1_i32_5 : BitVec 32 := 1#32
  let arg7 : BitVec 32 := Scf.iv c0_i32_4 c1_i32_5 k0_t2
  let v8 : Index := Scalar.indexCast arg7
  let c0 : Index := 0#32
  let c0_7 : Index := 0#32
  let c0_8 : Index := 0#32
  ![v8.toNat, 0, 0, 0]
def k0_mult6 (k0_t2 : Fin k0_t2_loop.trips) : BitVec 32 :=
  let c0_i32_4 : BitVec 32 := 0#32
  let c1_i32_5 : BitVec 32 := 1#32
  let arg7 : BitVec 32 := Scf.iv c0_i32_4 c1_i32_5 k0_t2
  let c128_i32 : BitVec 32 := 128#32
  let v719 : BitVec 32 := Scalar.muli arg7 c128_i32
  v719
def k0_off4 (k0_t2 : Fin k0_t2_loop.trips) : Fin 2 → Nat :=
  let c0_i32_4 : BitVec 32 := 0#32
  let c1_i32_5 : BitVec 32 := 1#32
  let arg7 : BitVec 32 := Scf.iv c0_i32_4 c1_i32_5 k0_t2
  let c128_i32 : BitVec 32 := 128#32
  let v719 : BitVec 32 := Scalar.muli arg7 c128_i32
  let v720 : BitVec 32 := v719
  let v725 : Index := Scalar.indexCast v720
  let c0_12 : Index := 0#32
  ![v725.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x768 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3840x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S4x128x768 : Shape := ⟨3, ![4, 128, 768]⟩
abbrev S491520x768 : Shape := ⟨2, ![491520, 768]⟩
abbrev S491520 : Shape := ⟨1, ![491520]⟩
abbrev S512x768 : Shape := ⟨2, ![512, 768]⟩
abbrev S1x491520 : Shape := ⟨2, ![1, 491520]⟩
abbrev S512x491520 : Shape := ⟨2, ![512, 491520]⟩
abbrev S768x491520 : Shape := ⟨2, ![768, 491520]⟩
abbrev S512x100 : Shape := ⟨2, ![512, 100]⟩

abbrev nBuf : Space → Nat
  | .hbm => 8
  | .vmem => 4
  | .smem => 0
  | _ => 0

abbrev bufTy : (tb : Table) → Fin (tcTables nBuf tb) → BufTy
  | .hbm, ⟨0, _⟩ => ⟨S4x128x768, .bf16⟩
  | .hbm, ⟨1, _⟩ => ⟨S491520x768, .i8⟩
  | .hbm, ⟨2, _⟩ => ⟨S491520, .f32⟩
  | .hbm, ⟨3, _⟩ => ⟨S512x768, .bf16⟩
  | .hbm, ⟨4, _⟩ => ⟨S1x491520, .f32⟩
  | .hbm, ⟨5, _⟩ => ⟨S512x491520, .f32⟩
  | .hbm, ⟨6, _⟩ => ⟨S512x100, .f32⟩
  | .hbm, ⟨7, _⟩ => ⟨S512x100, .i32⟩
  | .local _ .vmem, ⟨0, _⟩ => ⟨S512x768, .bf16⟩
  | .local _ .vmem, ⟨1, _⟩ => ⟨S491520x768, .i8⟩
  | .local _ .vmem, ⟨2, _⟩ => ⟨S1x491520, .f32⟩
  | .local _ .vmem, ⟨3, _⟩ => ⟨S512x491520, .f32⟩
  | _, _ => ⟨S4x128x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_values : Ref sig .tc := ⟨.hbm, 6, rfl⟩
abbrev main_indices : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S491520x768 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x491520 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x491520 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Merge.lean ====
/- The bitonic merge on sequences, read through thresholds. A sequence `f : ℕ → EReal` is looked at, for each bound
   `t`, as the proposition-valued sequence `t ≤ f i`; a maximum of two entries is then "or" and a minimum is "and".
   The lemma of this file is that the stages `2^(k-1), …, 2, 1` sort a block of `2^k` propositions whose true ones form
   one interval, or everything but one interval. -/
module

public import Mathlib.Data.EReal.Basic
public import Mathlib.Tactic.Ring

@[expose] public section

namespace Cert.Proof

/-- One stage of a merge at distance `d`, on propositions: the first of a pair takes "or", the second "and". -/
def pStage (d : ℕ) (f : ℕ → Prop) : ℕ → Prop := fun i => if (i / d) % 2 = 0 then f i ∨ f (i + d) else f (i - d) ∧ f i

/-- One stage of a merge at distance `d`, on values: the first of a pair takes the maximum, the second the minimum. -/
noncomputable def cStage (d : ℕ) (f : ℕ → EReal) : ℕ → EReal := fun i =>
  if (i / d) % 2 = 0 then max (f i) (f (i + d)) else min (f (i - d)) (f i)

/-- The stages at distances `2^(k-1), …, 2, 1`, on propositions. -/
def pMerge : ℕ → (ℕ → Prop) → ℕ → Prop
  | 0, f => f
  | k + 1, f => pMerge k (pStage (2 ^ k) f)

/-- The stages at distances `2^(k-1), …, 2, 1`, on values. -/
noncomputable def cMerge : ℕ → (ℕ → EReal) → ℕ → EReal
  | 0, f => f
  | k + 1, f => cMerge k (cStage (2 ^ k) f)

theorem le_cStage (t : EReal) (d : ℕ) (f : ℕ → EReal) (i : ℕ) :
    t ≤ cStage d f i ↔ pStage d (fun j => t ≤ f j) i := by
  unfold cStage pStage
  split <;> simp

theorem le_cMerge (t : EReal) (k : ℕ) (f : ℕ → EReal) (i : ℕ) :
    t ≤ cMerge k f i ↔ pMerge k (fun j => t ≤ f j) i := by
  induction k generalizing f with
  | zero => rfl
  | succ k ih =>
    simp only [cMerge, pMerge, ih]
    rw [show (fun j => t ≤ cStage (2 ^ k) f j) = pStage (2 ^ k) (fun j => t ≤ f j) from
      funext fun j => propext (le_cStage t _ f j)]

/-- Of the `m` propositions `f s, …, f (s + m - 1)`, `c` are true, and they form one interval or all but one. -/
def Bitonic (m s c : ℕ) (f : ℕ → Prop) : Prop :=
  ∃ p q, p ≤ q ∧ q ≤ m ∧
    ((c = q - p ∧ ∀ i, i < m → (f (s + i) ↔ p ≤ i ∧ i < q)) ∨ (c = m - (q - p) ∧ ∀ i, i < m → (f (s + i) ↔ i < p ∨ q ≤ i)))

theorem Bitonic.congr {m s c : ℕ} {f g : ℕ → Prop} (h : Bitonic m s c f) (hfg : ∀ i, i < m → (g (s + i) ↔ f (s + i))) :
    Bitonic m s c g := by
  obtain ⟨p, q, h1, h2, h | h⟩ := h
  · exact ⟨p, q, h1, h2, .inl ⟨h.1, fun i hi => (hfg i hi).trans (h.2 i hi)⟩⟩
  · exact ⟨p, q, h1, h2, .inr ⟨h.1, fun i hi => (hfg i hi).trans (h.2 i hi)⟩⟩

/-- The "or" of the two halves of a bitonic block is bitonic and takes as many true ones as it can. -/
theorem Bitonic.or {m s c : ℕ} {f : ℕ → Prop} (h : Bitonic (2 * m) s c f) :
    Bitonic m s (min c m) (fun i => f i ∨ f (i + m)) := by
  obtain ⟨p, q, hpq, hqm, ⟨hc, h⟩ | ⟨hc, h⟩⟩ := h
  · have h1 : ∀ i, i < m → (f (s + i) ↔ p ≤ i ∧ i < q) := fun i hi => h i (by omega)
    have h2 : ∀ i, i < m → (f (s + i + m) ↔ p ≤ i + m ∧ i + m < q) := fun i hi => by
      rw [Nat.add_assoc]; exact h (i + m) (by omega)
    rcases Nat.lt_or_ge m q with hq | hq
    · rcases Nat.lt_or_ge p m with hp | hp
      · rcases Nat.lt_or_ge (q - m) p with hr | hr
        · exact ⟨q - m, p, by omega, by omega, .inr ⟨by omega, fun i hi => by beta_reduce; rw [h1 i hi, h2 i hi]; omega⟩⟩
        · exact ⟨0, m, by omega, by omega, .inl ⟨by omega, fun i hi => by beta_reduce; rw [h1 i hi, h2 i hi]; omega⟩⟩
      · exact ⟨p - m, q - m, by omega, by omega, .inl ⟨by omega, fun i hi => by beta_reduce; rw [h1 i hi, h2 i hi]; omega⟩⟩
    · exact ⟨p, q, by omega, by omega, .inl ⟨by omega, fun i hi => by beta_reduce; rw [h1 i hi, h2 i hi]; omega⟩⟩
  · have h1 : ∀ i, i < m → (f (s + i) ↔ i < p ∨ q ≤ i) := fun i hi => h i (by omega)
    have h2 : ∀ i, i < m → (f (s + i + m) ↔ i + m < p ∨ q ≤ i + m) := fun i hi => by
      rw [Nat.add_assoc]; exact h (i + m) (by omega)
    rcases Nat.lt_or_ge p m with hp | hp
    · rcases Nat.lt_or_ge m q with hq | hq
      · rcases Nat.lt_or_ge p (q - m) with hr | hr
        · exact ⟨p, q - m, by omega, by omega, .inr ⟨by omega, fun i hi => by beta_reduce; rw [h1 i hi, h2 i hi]; omega⟩⟩
        · exact ⟨0, m, by omega, by omega, .inl ⟨by omega, fun i hi => by beta_reduce; rw [h1 i hi, h2 i hi]; omega⟩⟩
      · exact ⟨0, m, by omega, by omega, .inl ⟨by omega, fun i hi => by beta_reduce; rw [h1 i hi, h2 i hi]; omega⟩⟩
    · exact ⟨0, m, by omega, by omega, .inl ⟨by omega, fun i hi => by beta_reduce; rw [h1 i hi, h2 i hi]; omega⟩⟩

/-- The "and" of the two halves of a bitonic block is bitonic and takes the true ones that are left. -/
theorem Bitonic.and {m s c : ℕ} {f : ℕ → Prop} (h : Bitonic (2 * m) s c f) :
    Bitonic m (s + m) (c - m) (fun i => f (i - m) ∧ f i) := by
  have hs : ∀ i, s + m + i - m = s + i := fun i => by omega
  obtain ⟨p, q, hpq, hqm, ⟨hc, h⟩ | ⟨hc, h⟩⟩ := h
  · have h1 : ∀ i, i < m → (f (s + i) ↔ p ≤ i ∧ i < q) := fun i hi => h i (by omega)
    have h2 : ∀ i, i < m → (f (s + m + i) ↔ p ≤ m + i ∧ m + i < q) := fun i hi => by
      rw [Nat.add_assoc]; exact h (m + i) (by omega)
    rcases Nat.lt_or_ge p (q - m) with hr | hr
    · rcases Nat.lt_or_ge p m with hp | hp
      · exact ⟨p, q - m, by omega, by omega, .inl ⟨by omega, fun i hi => by simp only [hs]; rw [h1 i hi, h2 i hi]; omega⟩⟩
      · exact ⟨0, 0, by omega, by omega, .inl ⟨by omega, fun i hi => by simp only [hs]; rw [h1 i hi, h2 i hi]; omega⟩⟩
    · exact ⟨0, 0, by omega, by omega, .inl ⟨by omega, fun i hi => by simp only [hs]; rw [h1 i hi, h2 i hi]; omega⟩⟩
  · have h1 : ∀ i, i < m → (f (s + i) ↔ i < p ∨ q ≤ i) := fun i hi => h i (by omega)
    have h2 : ∀ i, i < m → (f (s + m + i) ↔ m + i < p ∨ q ≤ m + i) := fun i hi => by
      rw [Nat.add_assoc]; exact h (m + i) (by omega)
    rcases Nat.lt_or_ge p m with hp | hp
    · rcases Nat.lt_or_ge m q with hq | hq
      · rcases Nat.lt_or_ge (q - m) p with hr | hr
        · exact ⟨q - m, p, by omega, by omega, .inl ⟨by omega, fun i hi => by simp only [hs]; rw [h1 i hi, h2 i hi]; omega⟩⟩
        · exact ⟨0, 0, by omega, by omega, .inl ⟨by omega, fun i hi => by simp only [hs]; rw [h1 i hi, h2 i hi]; omega⟩⟩
      · exact ⟨p, q, by omega, by omega, .inr ⟨by omega, fun i hi => by simp only [hs]; rw [h1 i hi, h2 i hi]; omega⟩⟩
    · exact ⟨p - m, q - m, by omega, by omega, .inr ⟨by omega, fun i hi => by simp only [hs]; rw [h1 i hi, h2 i hi]; omega⟩⟩

/-- A merge sorts every aligned bitonic block: the true ones come first. -/
theorem pMerge_sorts (k s c : ℕ) (f : ℕ → Prop) (hs : 2 ^ k ∣ s) (h : Bitonic (2 ^ k) s c f) (i : ℕ) (hi : i < 2 ^ k) :
    pMerge k f (s + i) ↔ i < c := by
  induction k generalizing s c f i with
  | zero =>
    obtain rfl : i = 0 := by simpa using hi
    obtain ⟨p, q, hpq, hqm, ⟨hc, h⟩ | ⟨hc, h⟩⟩ := h
    · rw [pMerge, h 0 (by simp)]; simp at hqm; omega
    · rw [pMerge, h 0 (by simp)]; simp at hqm; omega
  | succ k ih =>
    have hpos : 0 < 2 ^ k := Nat.pow_pos (by norm_num)
    rw [pow_succ, Nat.mul_comm] at h hi hs
    obtain ⟨a, rfl⟩ := hs
    have hdiv : ∀ j, j < 2 ^ k → ((2 * 2 ^ k * a + j) / 2 ^ k) % 2 = 0 := fun j hj => by
      rw [show 2 * 2 ^ k * a + j = j + 2 ^ k * (2 * a) by ring, Nat.add_mul_div_left _ _ hpos, Nat.div_eq_of_lt hj]; omega
    have hdiv' : ∀ j, j < 2 ^ k → ((2 * 2 ^ k * a + 2 ^ k + j) / 2 ^ k) % 2 = 1 := fun j hj => by
      rw [show 2 * 2 ^ k * a + 2 ^ k + j = j + 2 ^ k * (2 * a + 1) by ring, Nat.add_mul_div_left _ _ hpos, Nat.div_eq_of_lt hj]; omega
    rw [pMerge]
    rcases Nat.lt_or_ge i (2 ^ k) with hi' | hi'
    · rw [ih (2 * 2 ^ k * a) (min c (2 ^ k)) _ ⟨2 * a, by ring⟩ (h.or.congr fun j hj => by rw [pStage, if_pos (hdiv j hj)]) i hi']
      omega
    · have := ih (2 * 2 ^ k * a + 2 ^ k) (c - 2 ^ k) (pStage (2 ^ k) f) ⟨2 * a + 1, by ring⟩
        (h.and.congr fun j hj => by rw [pStage, if_neg (by rw [hdiv' j hj]; decide)]) (i - 2 ^ k) (by omega)
      rw [show 2 * 2 ^ k * a + 2 ^ k + (i - 2 ^ k) = 2 * 2 ^ k * a + i by omega] at this
      rw [this]; omega

/-- The first `n` entries of `f` are the greatest ones, in order, of a family that has `c t` entries at least `t`. -/
def IsTop (n : ℕ) (f : ℕ → EReal) (c : EReal → ℕ) : Prop := ∀ t, ∀ i, i < n → (t ≤ f i ↔ i < c t)

/-- A merge of a block of two sorted runs, the second flipped: the result is sorted from all of both. -/
theorem IsTop.mergeFull {k : ℕ} {a b f : ℕ → EReal} {ca cb : EReal → ℕ} (s : ℕ) (hs : 2 ^ (k + 1) ∣ s)
    (ha : IsTop (2 ^ k) a ca) (hb : IsTop (2 ^ k) b cb) (hca : ∀ t, ca t ≤ 2 ^ k) (hcb : ∀ t, cb t ≤ 2 ^ k)
    (hf : ∀ i, i < 2 ^ k → f (s + i) = a i) (hf' : ∀ i, i < 2 ^ k → f (s + 2 ^ k + i) = b (2 ^ k - 1 - i)) :
    IsTop (2 ^ (k + 1)) (fun i => cMerge (k + 1) f (s + i)) (fun t => ca t + cb t) := fun t i hi => by
  have h1 := hca t
  have h2 := hcb t
  rw [le_cMerge]
  refine pMerge_sorts (k + 1) s (ca t + cb t) _ hs ⟨ca t, 2 * 2 ^ k - cb t, by omega, by rw [pow_succ]; omega, .inr ⟨by rw [pow_succ]; omega, fun j hj => ?_⟩⟩ i hi
  rw [pow_succ] at hj
  rcases Nat.lt_or_ge j (2 ^ k) with hj' | hj'
  · rw [hf j hj', ha t j hj']; omega
  · have := hf' (j - 2 ^ k) (by omega)
    rw [show s + 2 ^ k + (j - 2 ^ k) = s + j by omega] at this
    rw [this, hb t _ (by omega)]; omega

/-- A merge of the entrywise maximum of one sorted list with the other flipped against its end: the result is the
    greatest entries of both. The second list may be shorter than the first, but then it must be complete. -/
theorem IsTop.mergeTop {k w : ℕ} {a b f : ℕ → EReal} {ca cb : EReal → ℕ} (hw : w ≤ 2 ^ k)
    (ha : IsTop (2 ^ k) a ca) (hb : IsTop w b cb) (hcb : w = 2 ^ k ∨ ∀ t, cb t ≤ w)
    (hf : ∀ i, i < 2 ^ k - w → f i = a i) (hf' : ∀ i, 2 ^ k - w ≤ i → i < 2 ^ k → f i = max (a i) (b (2 ^ k - 1 - i))) :
    IsTop (2 ^ k) (cMerge k f) (fun t => ca t + cb t) := fun t i hi => by
  rw [le_cMerge]
  have key := pMerge_sorts k 0 (min (2 ^ k) (ca t + cb t)) (fun j => t ≤ f j) (dvd_zero _)
    ⟨min (2 ^ k) (ca t), max (min (2 ^ k) (ca t)) (2 ^ k - cb t), by omega, by omega, .inr ⟨by omega, fun j hj => ?_⟩⟩ i hi
  · rw [Nat.zero_add] at key; rw [key]; beta_reduce; omega
  · rw [Nat.zero_add]; beta_reduce
    rcases Nat.lt_or_ge j (2 ^ k - w) with hj' | hj'
    · rw [hf j hj', ha t j hj]
      rcases hcb with h | h
      · omega
      · have := h t; omega
    · rw [hf' j hj' hj, le_max_iff, ha t j hj, hb t _ (by omega)]; omega

end Cert.Proof
-- ==== Proof.Stage.lean ====
/- The kernel's stacks of vectors, `n` of them of shape `8x128`, and the operations it builds its sorting network from:
   one compare-exchange stage, the merge made of stages, the reversal of a stack, and the merges of two stacks. Each
   is stated as the printed program spells it, and read one column at a time as the sequences of `Merge`. -/
module

public import proofs.«01_k».proof.Proof.Merge
public import Idealize.ShloMosaic.Lib.ValueIdx
public import Idealize.ShloMosaic.Lib.Pipeline.Value
public import Idealize.ShloMosaic.PureOps.Ideal

@[expose] public section

noncomputable section

namespace Cert.Proof

open Idealize.ShloMosaic Idealize.ShloMosaic.ValueIdx

variable {F : FTy → Type} [FloatOps F]

/-- `n` vectors of shape `8x128`. -/
abbrev VS (n : ℕ) : Shape := ⟨3, ![n, 8, 128]⟩
/-- The same elements as `A` blocks of two halves of `d` vectors. -/
abbrev WS (A d : ℕ) : Shape := ⟨5, ![A, 2, d, 8, 128]⟩
/-- One half of each block. -/
abbrev HS (A d : ℕ) : Shape := ⟨5, ![A, 1, d, 8, 128]⟩
/-- One half of each block, without the unit axis. -/
abbrev QS (A d : ℕ) : Shape := ⟨4, ![A, d, 8, 128]⟩

theorem VS_casts_WS {n A d : ℕ} (h : n = A * 2 * d) : (VS n).ShapeCasts (WS A d) := by
  subst h
  simp [Shape.ShapeCasts, Shape.numel, Fin.prod_univ_succ]; ring
theorem WS_casts_VS {n A d : ℕ} (h : n = A * 2 * d) : (WS A d).ShapeCasts (VS n) := (VS_casts_WS h).symm
theorem HS_casts_QS (A d : ℕ) : (HS A d).ShapeCasts (QS A d) := by
  simp [Shape.ShapeCasts, Shape.numel, Fin.prod_univ_succ]
theorem QS_casts_HS (A d : ℕ) : (QS A d).ShapeCasts (HS A d) := (HS_casts_QS A d).symm
theorem WS_slices_lo (A d : ℕ) : (WS A d).Slices ![0, 0, 0, 0, 0] (HS A d) :=
  ⟨rfl, fun a => by fin_cases a <;> simp⟩
theorem WS_slices_hi (A d : ℕ) : (WS A d).Slices ![0, 1, 0, 0, 0] (HS A d) :=
  ⟨rfl, fun a => by fin_cases a <;> simp⟩
theorem HS_concatenates (A d : ℕ) : Shape.Concatenates [HS A d, HS A d] (WS A d) 1 := by
  refine ⟨by simp, fun s hs => ?_, by simp⟩
  simp at hs; subst hs
  exact ⟨rfl, fun b hb => by fin_cases b <;> simp at hb ⊢⟩
theorem VS_slices {n m o : ℕ} (h : o + m ≤ n) : (VS n).Slices ![o, 0, 0] (VS m) :=
  ⟨rfl, fun a => by fin_cases a <;> simp [h]⟩
theorem VS_concatenates {m m' n : ℕ} (h : m + m' = n) : Shape.Concatenates [VS m, VS m'] (VS n) 0 := by
  refine ⟨by simp, fun s hs => ?_, by simp [h]⟩
  simp at hs
  rcases hs with rfl | rfl
  all_goals exact ⟨rfl, fun b hb => by fin_cases b <;> simp at hb ⊢⟩
theorem VS_concatenatesN {α : Type} {N m n : ℕ} (f : Fin N → (VS m).Idx → α) (hN : 2 ≤ N) (h : N * m = n) :
    Shape.Concatenates ((List.ofFn fun i : Fin N => (⟨VS m, f i⟩ : (s : Shape) × (s.Idx → α))).map (·.1)) (VS n) 0 := by
  refine ⟨by simpa using hN, fun s hs => ?_, ?_⟩
  · simp [List.mem_ofFn] at hs
    obtain ⟨i, rfl⟩ := hs
    exact ⟨rfl, fun b hb => by fin_cases b <;> simp at hb ⊢⟩
  · simp [List.map_ofFn, Function.comp_def, List.ofFn_const, h]

/-- One compare-exchange stage at distance `d`: the first half of each block takes the maxima, the second the minima. -/
def stageV {n : ℕ} (A d : ℕ) (h : n = A * 2 * d) (x : FVec F (VS n) .f32) : FVec F (VS n) .f32 :=
  let y := shapeCast (WS A d) x (VS_casts_WS h)
  let a := shapeCast (QS A d) (extractStridedSlice (HS A d) ![0, 0, 0, 0, 0] y (WS_slices_lo A d)) (HS_casts_QS A d)
  let b := shapeCast (QS A d) (extractStridedSlice (HS A d) ![0, 1, 0, 0, 0] y (WS_slices_hi A d)) (HS_casts_QS A d)
  let hi : FVec F (HS A d) .f32 := shapeCast (HS A d) (maximumf (F := F) (φ := .f32) a b) (QS_casts_HS A d)
  let lo : FVec F (HS A d) .f32 := shapeCast (HS A d) (minimumf (F := F) (φ := .f32) a b) (QS_casts_HS A d)
  shapeCast (VS n) (concatenate (WS A d) 1 [⟨HS A d, hi⟩, ⟨HS A d, lo⟩] (HS_concatenates A d)) (WS_casts_VS h)

theorem two_pow_split {n k : ℕ} (h : 2 ^ (k + 1) ∣ n) : n = n / (2 * 2 ^ k) * 2 * 2 ^ k := by
  rw [Nat.mul_assoc, Nat.div_mul_cancel (by rwa [← Nat.pow_succ'])]

/-- The stages at distances `2^(k-1), …, 2, 1`. -/
def mergeV {n : ℕ} : (k : ℕ) → 2 ^ k ∣ n → FVec F (VS n) .f32 → FVec F (VS n) .f32
  | 0, _, x => x
  | k + 1, h, x =>
    mergeV k ((Nat.pow_dvd_pow 2 k.le_succ).trans h) (stageV (n / (2 * 2 ^ k)) (2 ^ k) (two_pow_split h) x)

/-- Some of the vectors of a stack. -/
abbrev sliceV {n : ℕ} (m o : ℕ) (h : o + m ≤ n) (x : FVec F (VS n) .f32) : FVec F (VS m) .f32 :=
  extractStridedSlice (VS m) ![o, 0, 0] x (VS_slices h)

/-- Two stacks, one after the other. -/
abbrev pairV {m m' n : ℕ} (h : m + m' = n) (x : FVec F (VS m) .f32) (y : FVec F (VS m') .f32) : FVec F (VS n) .f32 :=
  concatenate (VS n) 0 [⟨VS m, x⟩, ⟨VS m', y⟩] (VS_concatenates h)

/-- A stack in the reverse order. -/
def flipV {n : ℕ} (hn : 2 ≤ n) (x : FVec F (VS n) .f32) : FVec F (VS n) .f32 :=
  concatenate (VS n) 0
    (List.ofFn fun i : Fin n => ⟨VS 1, sliceV 1 (n - 1 - i.val) (by omega) x⟩) (VS_concatenatesN _ hn (Nat.mul_one n))

/-! ### Read at an index, over the extended reals -/

/-- One column of a stack, as a sequence: `⊥` beyond its end. -/
def col {n : ℕ} (v : FVec Ideal (VS n) .f32) (s : Fin 8) (l : Fin 128) : ℕ → EReal :=
  fun i => if h : i < n then v (ix3 ⟨i, h⟩ s l) else ⊥

theorem col_lt {n : ℕ} (v : FVec Ideal (VS n) .f32) (s : Fin 8) (l : Fin 128) {i : ℕ} (h : i < n) :
    col v s l i = v (ix3 ⟨i, h⟩ s l) := dif_pos h

theorem half_apply {n A d : ℕ} (h : n = A * 2 * d) (x : FVec Ideal (VS n) .f32) (b : Fin 2) (off : Fin 5 → ℕ)
    (hoff : off = ![0, b.val, 0, 0, 0]) (hs : (WS A d).Slices off (HS A d))
    (a : Fin A) (e : Fin d) (s : Fin 8) (l : Fin 128) (i : Fin n) (hi : i.val = (a.val * 2 + b.val) * d + e.val) :
    shapeCast (QS A d) (extractStridedSlice (HS A d) off (shapeCast (WS A d) x (VS_casts_WS h)) hs) (HS_casts_QS A d)
      (ix4 a e s l) = x (ix3 i s l) := by
  subst hoff
  rw [shapeCast_apply _ _ _ (ix5 a 0 e s l : (HS A d).Idx) (by
    rw [Shape.rowMajor_val_five, Shape.rowMajor_val_four]
    show (((a.val * 1 + 0) * d + e.val) * 8 + s.val) * 128 + l.val = ((a.val * d + e.val) * 8 + s.val) * 128 + l.val
    simp)]
  rw [extractStridedSlice_apply _ _ _ _ (ix5 a b e s l : (WS A d).Idx) (by
    intro q; fin_cases q <;> simp)]
  rw [shapeCast_apply _ _ _ (ix3 i s l : (VS n).Idx) (by
    rw [Shape.rowMajor_val_five, Shape.rowMajor_val_three]
    show (i.val * 8 + s.val) * 128 + l.val = (((a.val * 2 + b.val) * d + e.val) * 8 + s.val) * 128 + l.val
    rw [hi])]

theorem stageV_apply {n A d : ℕ} (h : n = A * 2 * d) (x : FVec Ideal (VS n) .f32)
    (a : Fin A) (b : Fin 2) (e : Fin d) (s : Fin 8) (l : Fin 128) (i j k : Fin n)
    (hi : i.val = (a.val * 2 + b.val) * d + e.val) (hj : j.val = (a.val * 2) * d + e.val)
    (hk : k.val = (a.val * 2 + 1) * d + e.val) :
    stageV A d h x (ix3 i s l) =
      if b = 0 then max (x (ix3 j s l)) (x (ix3 k s l)) else min (x (ix3 j s l)) (x (ix3 k s l)) := by
  unfold stageV
  rw [shapeCast_apply _ _ _ (ix5 a b e s l : (WS A d).Idx) (by
    rw [Shape.rowMajor_val_five, Shape.rowMajor_val_three]
    show (((a.val * 2 + b.val) * d + e.val) * 8 + s.val) * 128 + l.val = (i.val * 8 + s.val) * 128 + l.val
    rw [hi])]
  have hb : b = 0 ∨ b = 1 := by omega
  rcases hb with rfl | rfl
  · rw [if_pos rfl]
    rw [concatenate_pair_apply_left (t := WS A d) (s₁ := HS A d) (s₂ := HS A d) 1 _ _ _ _ rfl (ix5 a 0 e s l : (HS A d).Idx) (by
      intro q; fin_cases q <;> rfl)]
    rw [shapeCast_apply _ _ _ (ix4 a e s l : (QS A d).Idx) (by
      rw [Shape.rowMajor_val_five, Shape.rowMajor_val_four]
      show ((a.val * d + e.val) * 8 + s.val) * 128 + l.val = (((a.val * 1 + 0) * d + e.val) * 8 + s.val) * 128 + l.val
      simp)]
    rw [maximumf_apply, half_apply h x 0 ![0, 0, 0, 0, 0] rfl _ a e s l j (by simpa using hj),
      half_apply h x 1 ![0, 1, 0, 0, 0] rfl _ a e s l k (by simpa using hk)]
  · rw [if_neg (by decide)]
    rw [concatenate_pair_apply_right (t := WS A d) (s₁ := HS A d) (s₂ := HS A d) 1 _ _ _ _ rfl rfl (ix5 a 0 e s l : (HS A d).Idx) (by
      intro q hq; fin_cases q <;> first | rfl | exact absurd rfl hq) (by rfl)]
    rw [shapeCast_apply _ _ _ (ix4 a e s l : (QS A d).Idx) (by
      rw [Shape.rowMajor_val_five, Shape.rowMajor_val_four]
      show ((a.val * d + e.val) * 8 + s.val) * 128 + l.val = (((a.val * 1 + 0) * d + e.val) * 8 + s.val) * 128 + l.val
      simp)]
    rw [minimumf_apply, half_apply h x 0 ![0, 0, 0, 0, 0] rfl _ a e s l j (by simpa using hj),
      half_apply h x 1 ![0, 1, 0, 0, 0] rfl _ a e s l k (by simpa using hk)]

theorem col_stageV {n A d : ℕ} (h : n = A * 2 * d) (x : FVec Ideal (VS n) .f32) (s : Fin 8) (l : Fin 128) :
    col (stageV A d h x) s l = cStage d (col x s l) := by
  funext i
  unfold cStage
  by_cases hi : i < n
  · have hd : 0 < d := by
      rcases Nat.eq_zero_or_pos d with rfl | hd
      · simp at h; omega
      · exact hd
    have h1 : d * (i / d) + i % d = i := Nat.div_add_mod i d
    have h2 : i % d < d := Nat.mod_lt _ hd
    have h3 : 2 * (i / d / 2) + i / d % 2 = i / d := Nat.div_add_mod _ 2
    have h4 : i / d % 2 < 2 := Nat.mod_lt _ (by decide)
    have h5 : i / d < A * 2 := by rw [Nat.div_lt_iff_lt_mul hd, ← h]; exact hi
    generalize hq : i / d = q at *
    generalize hr : i % d = r at *
    generalize hp : q / 2 = p at *
    have hlt : p * 2 * d + d + d ≤ n := by
      have : (p * 2 + 2) * d ≤ A * 2 * d := Nat.mul_le_mul_right d (by omega)
      rw [h]; linarith [this]
    rw [col_lt _ s l hi]
    rcases Nat.lt_or_ge (q % 2) 1 with hb | hb
    · have hb0 : q % 2 = 0 := by omega
      have hqe : q = p * 2 := by omega
      have hie : i = p * 2 * d + r := by rw [← h1, hqe]; ring
      rw [if_pos hb0, stageV_apply h x ⟨p, by omega⟩ 0 ⟨r, h2⟩ s l ⟨i, hi⟩ ⟨i, hi⟩ ⟨i + d, by omega⟩
        (by simp [hie]) (by simp [hie]) (by simp [hie]; ring), if_pos rfl, col_lt _ s l hi,
        col_lt _ s l (show i + d < n by omega)]
    · have hb1 : q % 2 = 1 := by omega
      have hqe : q = p * 2 + 1 := by omega
      have hie : i = p * 2 * d + d + r := by rw [← h1, hqe]; ring
      rw [if_neg (by omega), stageV_apply h x ⟨p, by omega⟩ 1 ⟨r, h2⟩ s l ⟨i, hi⟩ ⟨i - d, by omega⟩ ⟨i, hi⟩
        (by simp [hie]; ring) (by simp; omega) (by simp [hie]; ring), if_neg (by decide), col_lt _ s l hi,
        col_lt _ s l (show i - d < n by omega)]
  · have h0 : ∀ (v : FVec Ideal (VS n) .f32) (j : ℕ), i ≤ j → col v s l j = ⊥ := fun v j hj => dif_neg (by omega)
    rw [h0 _ i le_rfl, h0 _ i le_rfl, h0 _ (i + d) (by omega)]
    split <;> simp

theorem col_mergeV {n : ℕ} (k : ℕ) (h : 2 ^ k ∣ n) (x : FVec Ideal (VS n) .f32) (s : Fin 8) (l : Fin 128) :
    col (mergeV k h x) s l = cMerge k (col x s l) := by
  induction k generalizing x with
  | zero => rfl
  | succ k ih => rw [mergeV, ih, col_stageV, cMerge]

theorem col_sliceV {n m o : ℕ} (h : o + m ≤ n) (x : FVec Ideal (VS n) .f32) (s : Fin 8) (l : Fin 128) {i : ℕ}
    (hi : i < m) : col (sliceV m o h x) s l i = col x s l (o + i) := by
  rw [col_lt _ s l hi, col_lt _ s l (show o + i < n by omega)]
  exact extractStridedSlice_apply _ _ _ _ _ (by intro q; fin_cases q <;> simp)

theorem col_pairV_left {m m' n : ℕ} (h : m + m' = n) (x : FVec Ideal (VS m) .f32) (y : FVec Ideal (VS m') .f32)
    (s : Fin 8) (l : Fin 128) {i : ℕ} (hi : i < m) : col (pairV h x y) s l i = col x s l i := by
  rw [col_lt _ s l hi, col_lt _ s l (show i < n by omega)]
  exact concatenate_pair_apply_left (t := VS n) (s₁ := VS m) (s₂ := VS m') 0 x y _ _ rfl _ (by intro q; fin_cases q <;> rfl)

theorem col_pairV_right {m m' n : ℕ} (h : m + m' = n) (x : FVec Ideal (VS m) .f32) (y : FVec Ideal (VS m') .f32)
    (s : Fin 8) (l : Fin 128) {i : ℕ} (hi : i < m') : col (pairV h x y) s l (m + i) = col y s l i := by
  rw [col_lt _ s l hi, col_lt _ s l (show m + i < n by omega)]
  exact concatenate_pair_apply_right (t := VS n) (s₁ := VS m) (s₂ := VS m') 0 x y _ _ rfl rfl _
    (by intro q hq; fin_cases q <;> first | rfl | exact absurd rfl hq) (by show i + m = m + i; omega)

theorem col_concatN {N m n : ℕ} (f : Fin N → FVec Ideal (VS m) .f32)
    (h : Shape.Concatenates ((List.ofFn fun i : Fin N => (⟨VS m, f i⟩ : (s : Shape) × (s.Idx → EReal))).map (·.1)) (VS n) 0)
    (hn : N * m = n) (s : Fin 8) (l : Fin 128) (p : Fin N) {i : ℕ} (hi : i < m) :
    col (concatenate (VS n) 0 (List.ofFn fun i : Fin N => (⟨VS m, f i⟩ : (s : Shape) × (s.Idx → EReal))) h :
      FVec Ideal (VS n) .f32) s l (p.val * m + i) = col (f p) s l i := by
  have hlt : p.val * m + i < n := by
    have : (p.val + 1) * m ≤ N * m := Nat.mul_le_mul_right m p.isLt
    rw [← hn]; linarith
  rw [col_lt _ s l hi, col_lt _ s l hlt]
  refine concatenate_ofFn_apply (t := VS n) 0 f h rfl m rfl _ p ?_ _ ?_ ?_
  · show (p.val * m + i) / m = p.val
    rw [Nat.mul_comm, Nat.mul_add_div (by omega), Nat.div_eq_of_lt hi, Nat.add_zero]
  · show i = (p.val * m + i) % m
    rw [Nat.mul_comm, Nat.mul_add_mod, Nat.mod_eq_of_lt hi]
  · intro q hq; fin_cases q <;> first | rfl | exact absurd rfl hq

theorem col_flipV {n : ℕ} (hn : 2 ≤ n) (x : FVec Ideal (VS n) .f32) (s : Fin 8) (l : Fin 128) {i : ℕ} (hi : i < n) :
    col (flipV hn x) s l i = col x s l (n - 1 - i) := by
  have h := col_concatN (fun i : Fin n => sliceV (F := Ideal) 1 (n - 1 - i.val) (by omega) x)
    (VS_concatenatesN _ hn (Nat.mul_one n)) (Nat.mul_one n) s l ⟨i, hi⟩ (i := 0) Nat.zero_lt_one
  rw [col_sliceV _ _ _ _ Nat.zero_lt_one] at h
  rw [Nat.mul_one, Nat.add_zero, Nat.add_zero] at h
  exact h

theorem col_max {n : ℕ} (x y : FVec Ideal (VS n) .f32) (s : Fin 8) (l : Fin 128) (i : ℕ) :
    col (maximumf x y) s l i = max (col x s l i) (col y s l i) := by
  unfold col
  split
  · rfl
  · simp

end Cert.Proof
-- ==== Proof.Net.lean ====
/- The sorting network as the kernel runs it on one piece of 32 stacked vectors: five levels of merges sort the piece,
   and one merge takes it into a list of 128, whose last 32 entries it is compared with. -/
module

public import proofs.«01_k».proof.Proof.Stage

@[expose] public section

noncomputable section

namespace Cert.Proof

open Idealize.ShloMosaic Idealize.ShloMosaic.ValueIdx

variable {F : FTy → Type} [FloatOps F]

/-- Two sorted stacks of `w` vectors, at position `o` of a stack, merged into one: a stack of one is its own reverse. -/
def merge2 (x : FVec F (VS 32) .f32) (o : ℕ) (h : o + 1 + 1 ≤ 32) : FVec F (VS 2) .f32 :=
  mergeV 1 (by decide) (pairV (m := 1) (m' := 1) rfl (sliceV 1 o (by omega) x) (sliceV 1 (o + 1) (by omega) x))

/-- The same for stacks of more than one vector, the second reversed. -/
def mergeW (k : ℕ) {w : ℕ} (hw : w = 2 ^ (k + 1)) {n : ℕ} (hn : w + w = n) (x : FVec F (VS 32) .f32) (o : ℕ)
    (h : o + w + w ≤ 32) : FVec F (VS n) .f32 :=
  mergeV (k + 2) (by rw [← hn, hw, Nat.pow_succ 2 (k + 1), Nat.mul_two])
    (pairV (m := w) (m' := w) hn (sliceV w o (by omega) x)
      (flipV (by rw [hw, Nat.pow_succ]; have := Nat.two_pow_pos k; omega)
        (sliceV w (o + w) (by omega) x)))

/-- One level: the sorted stacks of `w` vectors of the piece, merged two by two. -/
def levelV (k : ℕ) {w : ℕ} (hw : w = 2 ^ (k + 1)) (N n : ℕ) (hn : w + w = n) (hN : 2 ≤ N) (h : N * n = 32)
    (x : FVec F (VS 32) .f32) : FVec F (VS 32) .f32 :=
  concatenate (VS 32) 0 (List.ofFn fun p : Fin N => ⟨VS n, mergeW k hw hn x (n * p.val) (by
      have : (p.val + 1) * n ≤ N * n := Nat.mul_le_mul_right n p.isLt
      rw [Nat.mul_comm n]; linarith)⟩)
    (VS_concatenatesN _ hN h)

/-- The first level: the single vectors merged two by two. -/
def level0V (x : FVec F (VS 32) .f32) : FVec F (VS 32) .f32 :=
  concatenate (VS 32) 0 (List.ofFn fun p : Fin 16 => ⟨VS 2, merge2 x (2 * p.val) (by omega)⟩)
    (VS_concatenatesN _ (by decide) (by decide))

/-- The last three levels, from sorted stacks of four. -/
def sort4V (x : FVec F (VS 32) .f32) : FVec F (VS 32) .f32 :=
  mergeW 3 (w := 16) (n := 32) rfl rfl
    (levelV 2 (w := 8) rfl 2 16 rfl (by decide) rfl
      (levelV 1 (w := 4) rfl 4 8 rfl (by decide) rfl x)) 0 (by decide)

/-- A piece sorted. -/
def sortV (x : FVec F (VS 32) .f32) : FVec F (VS 32) .f32 :=
  sort4V (levelV 0 (w := 2) rfl 8 4 rfl (by decide) rfl (level0V x))

/-- A list taking in a sorted piece. -/
def takeV (best : FVec F (VS 128) .f32) (v : FVec F (VS 32) .f32) : FVec F (VS 128) .f32 :=
  mergeV 7 (by decide) (pairV (m := 96) (m' := 32) rfl (sliceV 96 0 (by decide) best)
    (maximumf (sliceV 32 96 (by decide) best) (flipV (by decide) v)))

/-- Eight rows of scores against 128 queries, each row times its scale. -/
def rowV (u g : Fin 4) (r : Fin 32) (s : FVec F ⟨2, ![256, 512]⟩ .f32) (sT : FVec F ⟨2, ![128, 8]⟩ .f32) :
    FVec F ⟨2, ![8, 128]⟩ .f32 :=
  mulf
    (extractStridedSlice ⟨2, ![8, 128]⟩ ![8 * r.val, 128 * g.val] s
      ⟨rfl, fun a => by fin_cases a <;> simp <;> omega⟩)
    (broadcastTo ⟨2, ![8, 128]⟩
      (shapeCast ⟨2, ![8, 1]⟩
        (extractStridedSlice ⟨2, ![8, 1]⟩ ![(256 * u.val + 8 * r.val) % 128, (256 * u.val + 8 * r.val) / 128] sT
          ⟨rfl, fun a => by fin_cases a <;> simp <;> omega⟩) rfl)
      (by decide))

/-- The piece of 32 such vectors the unit `u` of a tile makes for the query group `g`. -/
def pieceV (u g : Fin 4) (s : FVec F ⟨2, ![256, 512]⟩ .f32) (sT : FVec F ⟨2, ![128, 8]⟩ .f32) : FVec F (VS 32) .f32 :=
  concatenate (VS 32) 0
    (List.ofFn fun r : Fin 32 => ⟨VS 1, shapeCast (VS 1) (rowV u g r s sT) (by decide)⟩)
    (VS_concatenatesN _ (by decide) rfl)

/-- A list, as it lies in memory, taking in a sorted piece. -/
def listTake (best : FVec F ⟨4, ![1, 128, 8, 128]⟩ .f32) (v : FVec F (VS 32) .f32) :
    FVec F ⟨4, ![1, 128, 8, 128]⟩ .f32 :=
  shapeCast ⟨4, ![1, 128, 8, 128]⟩ (takeV (shapeCast (VS 128) best (by decide)) v) (by decide)

/-- A list, as it lies in memory, after the unit `u` of a tile. -/
def unitV (u g : Fin 4) (s : FVec F ⟨2, ![256, 512]⟩ .f32) (sT : FVec F ⟨2, ![128, 8]⟩ .f32)
    (best : FVec F ⟨4, ![1, 128, 8, 128]⟩ .f32) : FVec F ⟨4, ![1, 128, 8, 128]⟩ .f32 :=
  listTake best (sortV (pieceV u g s sT))

end Cert.Proof
-- ==== Proof.Names.lean ====
/- Names for what one trip over the tiles loads: the codes of a unit, the queries, the scales, and the lists. -/
module

public import proofs.«01_k».proof.Proof.Net
public import proofs.«01_k».proof.Proof.Gen.KernelIdeal.Loops

@[expose] public section

noncomputable section

namespace Cert.Proof

open Idealize.ShloMosaic Cert.KernelIdeal Cert.KernelIdeal.Gen

variable {F : FTy → Type} [FloatOps F]

/-- The scores of 256 codes against the queries. -/
abbrev scoresV (codes : Vec F S256x768 .i8) (xt : Vec F S768x512 .bf16) : FVec F S256x512 .f32 := k0_pay6 codes xt

/-- Where the list of the query group `g` lies. -/
abbrev listRect (g : Fin 4) : Rect S4x128x8x128 :=
  Rect.unit (s := S4x128x8x128) ![g.val, 0, 0, 0] S1x128x8x128.size (by
    intro a; fin_cases a <;> simp [S4x128x8x128, S1x128x8x128] <;> omega)

/-- The codes the unit `u` of the trip loads. -/
abbrev codesAt (arg2 : Memref sig .tc .vmem S2048x768 .i8) (X : arg2.view.ty.Contents (Elt F))
    (k : Fin k0_t1_loop.trips) (u : Fin 4) : Vec F S256x768 .i8 :=
  View.readAt (Elt F) arg2.view
    (Rect.unit (s := S2048x768) (k0_off2 k (BitVec.ofNat 32 (256 * u.val))) S256x768.size (Cert.KernelIdeal.Gen.k0_off2_inb k u)).toLoadRect X

/-- The queries the trip loads. -/
abbrev queriesAt (arg5 : Memref sig .tc .vmem S768x512 .bf16) (X : arg5.view.ty.Contents (Elt F)) : Vec F S768x512 .bf16 :=
  View.readAt (Elt F) arg5.view
    (Rect.unit (s := S768x512) ![0, 0] S768x512.size inb_S768x512_S768x512_0_0).toLoadRect X

/-- The scales the trip loads, one column for each block of 128. -/
abbrev scalesAt (i : grid0.Coords) (arg3 : Memref sig .tc .vmem S3840x128 .f32) (X : arg3.view.ty.Contents (Elt F))
    (k : Fin k0_t1_loop.trips) : FVec F S128x8 .f32 :=
  k0_pay5 (View.readAt (Elt F) arg3.view (Rect.unit (s := S3840x128) (k0_off1 i k) S8x128.size (Cert.KernelIdeal.Gen.k0_off1_inb i k)).toLoadRect X)

end Cert.Proof
-- ==== Proof.UnitsA.lean ====
/- The first units of one trip over the tiles: the list each stores is the sorting network of `Net` on the
   scores the unit computes and on the list it loads. -/
module

public import proofs.«01_k».proof.Proof.Names

@[expose] public section

set_option maxRecDepth 100000
set_option maxHeartbeats 0

noncomputable section

namespace Cert.Proof

open Idealize.ShloMosaic Cert.KernelIdeal Cert.KernelIdeal.Gen

variable {F : FTy → Type} [FloatOps F]
variable (i : grid0.Coords) (arg2 : Memref sig .tc .vmem S2048x768 .i8) (arg3 : Memref sig .tc .vmem S3840x128 .f32)
  (arg5 : Memref sig .tc .vmem S768x512 .bf16) (arg6 : Memref sig .tc .vmem S4x128x8x128 .f32)
  (X_arg2 : arg2.view.ty.Contents (Elt F)) (X_arg3 : arg3.view.ty.Contents (Elt F))
  (X_arg5 : arg5.view.ty.Contents (Elt F)) (k : Fin k0_t1_loop.trips) (f_arg6 : arg6.view.ty.Contents (Elt F))

theorem piece_0_0 :
    trip_k0_t1.sl.r_38 (F := F) i arg2 arg3 arg5 X_arg2 X_arg3 X_arg5 k =
      pieceV 0 0 (scoresV (codesAt arg2 X_arg2 k 0) (queriesAt arg5 X_arg5)) (scalesAt i arg3 X_arg3 k) := id rfl

theorem sort_0_0 :
    trip_k0_t1.sl.r_156 (F := F) i arg2 arg3 arg5 X_arg2 X_arg3 X_arg5 k = sortV (trip_k0_t1.sl.r_38 (F := F) i arg2 arg3 arg5 X_arg2 X_arg3 X_arg5 k) := id rfl

theorem store_0_0 :
    (k0_pay180 (F := F) (trip_k0_t1.sl.r_164 i arg2 arg3 arg5 arg6 X_arg2 X_arg3 X_arg5 k f_arg6) (trip_k0_t1.sl.r_165 i arg2 arg3 arg5 arg6 X_arg2 X_arg3 X_arg5 k f_arg6)) =
      listTake (View.readAt (Elt F) arg6.view (listRect 0).toLoadRect f_arg6) (trip_k0_t1.sl.r_156 (F := F) i arg2 arg3 arg5 X_arg2 X_arg3 X_arg5 k) := id rfl

theorem unit_0_0 :
    (k0_pay180 (F := F) (trip_k0_t1.sl.r_164 i arg2 arg3 arg5 arg6 X_arg2 X_arg3 X_arg5 k f_arg6) (trip_k0_t1.sl.r_165 i arg2 arg3 arg5 arg6 X_arg2 X_arg3 X_arg5 k f_arg6)) =
      unitV 0 0 (scoresV (codesAt arg2 X_arg2 k 0) (queriesAt arg5 X_arg5)) (scalesAt i arg3 X_arg3 k)
        (View.readAt (Elt F) arg6.view (listRect 0).toLoadRect f_arg6) := by
  rw [store_0_0, sort_0_0, piece_0_0]
  rfl

theorem piece_0_1 :
    trip_k0_t1.sl.r_202 (F := F) i arg2 arg3 arg5 X_arg2 X_arg3 X_arg5 k =
      pieceV 0 1 (scoresV (codesAt arg2 X_arg2 k 0) (queriesAt arg5 X_arg5)) (scalesAt i arg3 X_arg3 k) := id rfl

theorem sort_0_1 :
    trip_k0_t1.sl.r_320 (F := F) i arg2 arg3 arg5 X_arg2 X_arg3 X_arg5 k = sortV (trip_k0_t1.sl.r_202 (F := F) i arg2 arg3 arg5 X_arg2 X_arg3 X_arg5 k) := id rfl

theorem store_0_1 :
    (k0_pay354 (F := F) (trip_k0_t1.sl.r_328 i arg2 arg3 arg5 arg6 X_arg2 X_arg3 X_arg5 k f_arg6) (trip_k0_t1.sl.r_329 i arg2 arg3 arg5 arg6 X_arg2 X_arg3 X_arg5 k f_arg6)) =
      listTake (View.readAt (Elt F) arg6.view (listRect 1).toLoadRect f_arg6) (trip_k0_t1.sl.r_320 (F := F) i arg2 arg3 arg5 X_arg2 X_arg3 X_arg5 k) := id rfl

theorem unit_0_1 :
    (k0_pay354 (F := F) (trip_k0_t1.sl.r_328 i arg2 arg3 arg5 arg6 X_arg2 X_arg3 X_arg5 k f_arg6) (trip_k0_t1.sl.r_329 i arg2 arg3 arg5 arg6 X_arg2 X_arg3 X_arg5 k f_arg6)) =
      unitV 0 1 (scoresV (codesAt arg2 X_arg2 k 0) (queriesAt arg5 X_arg5)) (scalesAt i arg3 X_arg3 k)
        (View.readAt (Elt F) arg6.view (listRect 1).toLoadRect f_arg6) := by
  rw [store_0_1, sort_0_1, piece_0_1]
  rfl

theorem piece_0_2 :
    trip_k0_t1.sl.r_366 (F := F) i arg2 arg3 arg5 X_arg2 X_arg3 X_arg5 k =
      pieceV 0 2 (scoresV (codesAt arg2 X_arg2 k 0) (queriesAt arg5 X_arg5)) (scalesAt i arg3 X_arg3 k) := id rfl

theorem sort_0_2 :
    trip_k0_t1.sl.r_484 (F := F) i arg2 arg3 arg5 X_arg2 X_arg3 X_arg5 k = sortV (trip_k0_t1.sl.r_366 (F := F) i arg2 arg3 arg5 X_arg2 X_arg3 X_arg5 k) := id rfl

theorem store_0_2 :
    (k0_pay528 (F := F) (trip_k0_t1.sl.r_492 i arg2 arg3 arg5 arg6 X_arg2 X_arg3 X_arg5 k f_arg6) (trip_k0_t1.sl.r_493 i arg2 arg3 arg5 arg6 X_arg2 X_arg3 X_arg5 k f_arg6)) =
      listTake (View.readAt (Elt F) arg6.view (listRect 2).toLoadRect f_arg6) (trip_k0_t1.sl.r_484 (F := F) i arg2 arg3 arg5 X_arg2 X_arg3 X_arg5 k) := id rfl

theorem unit_0_2 :
    (k0_pay528 (F := F) (trip_k0_t1.sl.r_492 i arg2 arg3 arg5 arg6 X_arg2 X_arg3 X_arg5 k f_arg6) (trip_k0_t1.sl.r_493 i arg2 arg3 arg5 arg6 X_arg2 X_arg3 X_arg5 k f_arg6)) =
      unitV 0 2 (scoresV (codesAt arg2 X_arg2 k 0) (queriesAt arg5 X_arg5)) (scalesAt i arg3 X_arg3 k)
        (View.readAt (Elt F) arg6.view (listRect 2).toLoadRect f_arg6) := by
  rw [store_0_2, sort_0_2, piece_0_2]
  rfl

theorem piece_0_3 :
    trip_k0_t1.sl.r_530 (F := F) i arg2 arg3 arg5 X_arg2 X_arg3 X_arg5 k =
      pieceV 0 3 (scoresV (codesAt arg2 X_arg2 k 0) (queriesAt arg5 X_arg5)) (scalesAt i arg3 X_arg3 k) := id rfl

theorem sort_0_3 :
    trip_k0_t1.sl.r_648 (F := F) i arg2 arg3 arg5 X_arg2 X_arg3 X_arg5 k = sortV (trip_k0_t1.sl.r_530 (F := F) i arg2 arg3 arg5 X_arg2 X_arg3 X_arg5 k) := id rfl

theorem store_0_3 :
    (k0_pay702 (F := F) (trip_k0_t1.sl.r_656 i arg2 arg3 arg5 arg6 X_arg2 X_arg3 X_arg5 k f_arg6) (trip_k0_t1.sl.r_657 i arg2 arg3 arg5 arg6 X_arg2 X_arg3 X_arg5 k f_arg6)) =
      listTake (View.readAt (Elt F) arg6.view (listRect 3).toLoadRect f_arg6) (trip_k0_t1.sl.r_648 (F := F) i arg2 arg3 arg5 X_arg2 X_arg3 X_arg5 k) := id rfl

theorem unit_0_3 :
    (k0_pay702 (F := F) (trip_k0_t1.sl.r_656 i arg2 arg3 arg5 arg6 X_arg2 X_arg3 X_arg5 k f_arg6) (trip_k0_t1.sl.r_657 i arg2 arg3 arg5 arg6 X_arg2 X_arg3 X_arg5 k f_arg6)) =
      unitV 0 3 (scoresV (codesAt arg2 X_arg2 k 0) (queriesAt arg5 X_arg5)) (scalesAt i arg3 X_arg3 k)
        (View.readAt (Elt F) arg6.view (listRect 3).toLoadRect f_arg6) := by
  rw [store_0_3, sort_0_3, piece_0_3]
  rfl

end Cert.Proof
-- ==== Proof.UnitsB.lean ====
/- The second units of one trip over the tiles: the list each stores is the sorting network of `Net` on the
   scores the unit computes and on the list it loads. -/
module

public import proofs.«01_k».proof.Proof.Names

@[expose] public section

set_option maxRecDepth 100000
set_option maxHeartbeats 0

noncomputable section

namespace Cert.Proof

open Idealize.ShloMosaic Cert.KernelIdeal Cert.KernelIdeal.Gen

variable {F : FTy → Type} [FloatOps F]
variable (i : grid0.Coords) (arg2 : Memref sig .tc .vmem S2048x768 .i8) (arg3 : Memref sig .tc .vmem S3840x128 .f32)
  (arg5 : Memref sig .tc .vmem S768x512 .bf16) (arg6 : Memref sig .tc .vmem S4x128x8x128 .f32)
  (X_arg2 : arg2.view.ty.Contents (Elt F)) (X_arg3 : arg3.view.ty.Contents (Elt F))
  (X_arg5 : arg5.view.ty.Contents (Elt F)) (k : Fin k0_t1_loop.trips) (f_arg6 : arg6.view.ty.Contents (Elt F))

theorem piece_1_0 :
    trip_k0_t1.sl.r_687 (F := F) i arg2 arg3 arg5 X_arg2 X_arg3 X_arg5 k =
      pieceV 1 0 (scoresV (codesAt arg2 X_arg2 k 1) (queriesAt arg5 X_arg5)) (scalesAt i arg3 X_arg3 k) := id rfl

theorem store_1_0 :
    (k0_pay863 (F := F) (trip_k0_t1.sl.r_803 i arg2 arg3 arg5 arg6 X_arg2 X_arg3 X_arg5 k f_arg6) (trip_k0_t1.sl.r_804 i arg2 arg3 arg5 arg6 X_arg2 X_arg3 X_arg5 k f_arg6)) =
      listTake (trip_k0_t1.sl.v6739 i arg2 arg3 arg5 arg6 X_arg2 X_arg3 X_arg5 k f_arg6) (sortV (trip_k0_t1.sl.r_687 (F := F) i arg2 arg3 arg5 X_arg2 X_arg3 X_arg5 k)) := id rfl

theorem unit_1_0 :
    (k0_pay863 (F := F) (trip_k0_t1.sl.r_803 i arg2 arg3 arg5 arg6 X_arg2 X_arg3 X_arg5 k f_arg6) (trip_k0_t1.sl.r_804 i arg2 arg3 arg5 arg6 X_arg2 X_arg3 X_arg5 k f_arg6)) =
      unitV 1 0 (scoresV (codesAt arg2 X_arg2 k 1) (queriesAt arg5 X_arg5)) (scalesAt i arg3 X_arg3 k)
        (trip_k0_t1.sl.v6739 i arg2 arg3 arg5 arg6 X_arg2 X_arg3 X_arg5 k f_arg6) := by
  rw [store_1_0, piece_1_0]
  rfl

theorem piece_1_1 :
    trip_k0_t1.sl.r_833 (F := F) i arg2 arg3 arg5 X_arg2 X_arg3 X_arg5 k =
      pieceV 1 1 (scoresV (codesAt arg2 X_arg2 k 1) (queriesAt arg5 X_arg5)) (scalesAt i arg3 X_arg3 k) := id rfl

theorem store_1_1 :
    (k0_pay1023 (F := F) (trip_k0_t1.sl.r_949 i arg2 arg3 arg5 arg6 X_arg2 X_arg3 X_arg5 k f_arg6) (trip_k0_t1.sl.r_950 i arg2 arg3 arg5 arg6 X_arg2 X_arg3 X_arg5 k f_arg6)) =
      listTake (trip_k0_t1.sl.v8110 i arg2 arg3 arg5 arg6 X_arg2 X_arg3 X_arg5 k f_arg6) (sortV (trip_k0_t1.sl.r_833 (F := F) i arg2 arg3 arg5 X_arg2 X_arg3 X_arg5 k)) := id rfl

theorem unit_1_1 :
    (k0_pay1023 (F := F) (trip_k0_t1.sl.r_949 i arg2 arg3 arg5 arg6 X_arg2 X_arg3 X_arg5 k f_arg6) (trip_k0_t1.sl.r_950 i arg2 arg3 arg5 arg6 X_arg2 X_arg3 X_arg5 k f_arg6)) =
      unitV 1 1 (scoresV (codesAt arg2 X_arg2 k 1) (queriesAt arg5 X_arg5)) (scalesAt i arg3 X_arg3 k)
        (trip_k0_t1.sl.v8110 i arg2 arg3 arg5 arg6 X_arg2 X_arg3 X_arg5 k f_arg6) := by
  rw [store_1_1, piece_1_1]
  rfl

theorem piece_1_2 :
    trip_k0_t1.sl.r_979 (F := F) i arg2 arg3 arg5 X_arg2 X_arg3 X_arg5 k =
      pieceV 1 2 (scoresV (codesAt arg2 X_arg2 k 1) (queriesAt arg5 X_arg5)) (scalesAt i arg3 X_arg3 k) := id rfl

theorem store_1_2 :
    (k0_pay1183 (F := F) (trip_k0_t1.sl.r_1095 i arg2 arg3 arg5 arg6 X_arg2 X_arg3 X_arg5 k f_arg6) (trip_k0_t1.sl.r_1096 i arg2 arg3 arg5 arg6 X_arg2 X_arg3 X_arg5 k f_arg6)) =
      listTake (trip_k0_t1.sl.v9481 i arg2 arg3 arg5 arg6 X_arg2 X_arg3 X_arg5 k f_arg6) (sortV (trip_k0_t1.sl.r_979 (F := F) i arg2 arg3 arg5 X_arg2 X_arg3 X_arg5 k)) := id rfl

theorem unit_1_2 :
    (k0_pay1183 (F := F) (trip_k0_t1.sl.r_1095 i arg2 arg3 arg5 arg6 X_arg2 X_arg3 X_arg5 k f_arg6) (trip_k0_t1.sl.r_1096 i arg2 arg3 arg5 arg6 X_arg2 X_arg3 X_arg5 k f_arg6)) =
      unitV 1 2 (scoresV (codesAt arg2 X_arg2 k 1) (queriesAt arg5 X_arg5)) (scalesAt i arg3 X_arg3 k)
        (trip_k0_t1.sl.v9481 i arg2 arg3 arg5 arg6 X_arg2 X_arg3 X_arg5 k f_arg6) := by
  rw [store_1_2, piece_1_2]
  rfl

theorem piece_1_3 :
    trip_k0_t1.sl.r_1125 (F := F) i arg2 arg3 arg5 X_arg2 X_arg3 X_arg5 k =
      pieceV 1 3 (scoresV (codesAt arg2 X_arg2 k 1) (queriesAt arg5 X_arg5)) (scalesAt i arg3 X_arg3 k) := id rfl

theorem store_1_3 :
    (k0_pay1343 (F := F) (trip_k0_t1.sl.r_1241 i arg2 arg3 arg5 arg6 X_arg2 X_arg3 X_arg5 k f_arg6) (trip_k0_t1.sl.r_1242 i arg2 arg3 arg5 arg6 X_arg2 X_arg3 X_arg5 k f_arg6)) =
      listTake (trip_k0_t1.sl.v10852 i arg2 arg3 arg5 arg6 X_arg2 X_arg3 X_arg5 k f_arg6) (sortV (trip_k0_t1.sl.r_1125 (F := F) i arg2 arg3 arg5 X_arg2 X_arg3 X_arg5 k)) := id rfl

theorem unit_1_3 :
    (k0_pay1343 (F := F) (trip_k0_t1.sl.r_1241 i arg2 arg3 arg5 arg6 X_arg2 X_arg3 X_arg5 k f_arg6) (trip_k0_t1.sl.r_1242 i arg2 arg3 arg5 arg6 X_arg2 X_arg3 X_arg5 k f_arg6)) =
      unitV 1 3 (scoresV (codesAt arg2 X_arg2 k 1) (queriesAt arg5 X_arg5)) (scalesAt i arg3 X_arg3 k)
        (trip_k0_t1.sl.v10852 i arg2 arg3 arg5 arg6 X_arg2 X_arg3 X_arg5 k f_arg6) := by
  rw [store_1_3, piece_1_3]
  rfl

end Cert.Proof
-- ==== Proof.UnitsC.lean ====
/- The third and fourth units of one trip over the tiles: the list each stores is the sorting network of `Net` on the
   scores the unit computes and on the list it loads. -/
module

public import proofs.«01_k».proof.Proof.Names

@[expose] public section

set_option maxRecDepth 100000
set_option maxHeartbeats 0

noncomputable section

namespace Cert.Proof

open Idealize.ShloMosaic Cert.KernelIdeal Cert.KernelIdeal.Gen

variable {F : FTy → Type} [FloatOps F]
variable (i : grid0.Coords) (arg2 : Memref sig .tc .vmem S2048x768 .i8) (arg3 : Memref sig .tc .vmem S3840x128 .f32)
  (arg5 : Memref sig .tc .vmem S768x512 .bf16) (arg6 : Memref sig .tc .vmem S4x128x8x128 .f32)
  (X_arg2 : arg2.view.ty.Contents (Elt F)) (X_arg3 : arg3.view.ty.Contents (Elt F))
  (X_arg5 : arg5.view.ty.Contents (Elt F)) (k : Fin k0_t1_loop.trips) (f_arg6 : arg6.view.ty.Contents (Elt F))

theorem piece_2_0 :
    trip_k0_t1.sl.r_1353 (F := F) i arg2 arg3 arg5 X_arg2 X_arg3 X_arg5 k =
      level0V (pieceV 2 0 (scoresV (codesAt arg2 X_arg2 k 2) (queriesAt arg5 X_arg5)) (scalesAt i arg3 X_arg3 k)) := id rfl

theorem store_2_0 :
    (k0_pay1546 (F := F) (trip_k0_t1.sl.r_1432 i arg2 arg3 arg5 arg6 X_arg2 X_arg3 X_arg5 k f_arg6)) =
      listTake (trip_k0_t1.sl.v12231 i arg2 arg3 arg5 arg6 X_arg2 X_arg3 X_arg5 k f_arg6) (sort4V (levelV 0 (w := 2) rfl 8 4 rfl (by decide) rfl (trip_k0_t1.sl.r_1353 (F := F) i arg2 arg3 arg5 X_arg2 X_arg3 X_arg5 k))) := id rfl

theorem unit_2_0 :
    (k0_pay1546 (F := F) (trip_k0_t1.sl.r_1432 i arg2 arg3 arg5 arg6 X_arg2 X_arg3 X_arg5 k f_arg6)) =
      unitV 2 0 (scoresV (codesAt arg2 X_arg2 k 2) (queriesAt arg5 X_arg5)) (scalesAt i arg3 X_arg3 k)
        (trip_k0_t1.sl.v12231 i arg2 arg3 arg5 arg6 X_arg2 X_arg3 X_arg5 k f_arg6) := by
  rw [store_2_0, piece_2_0]
  rfl

theorem piece_2_1 :
    trip_k0_t1.sl.r_1542 (F := F) i arg2 arg3 arg5 X_arg2 X_arg3 X_arg5 k =
      level0V (pieceV 2 1 (scoresV (codesAt arg2 X_arg2 k 2) (queriesAt arg5 X_arg5)) (scalesAt i arg3 X_arg3 k)) := id rfl

theorem store_2_1 :
    (k0_pay1748 (F := F) (trip_k0_t1.sl.r_1621 i arg2 arg3 arg5 arg6 X_arg2 X_arg3 X_arg5 k f_arg6)) =
      listTake (trip_k0_t1.sl.v13602 i arg2 arg3 arg5 arg6 X_arg2 X_arg3 X_arg5 k f_arg6) (sort4V (levelV 0 (w := 2) rfl 8 4 rfl (by decide) rfl (trip_k0_t1.sl.r_1542 (F := F) i arg2 arg3 arg5 X_arg2 X_arg3 X_arg5 k))) := id rfl

theorem unit_2_1 :
    (k0_pay1748 (F := F) (trip_k0_t1.sl.r_1621 i arg2 arg3 arg5 arg6 X_arg2 X_arg3 X_arg5 k f_arg6)) =
      unitV 2 1 (scoresV (codesAt arg2 X_arg2 k 2) (queriesAt arg5 X_arg5)) (scalesAt i arg3 X_arg3 k)
        (trip_k0_t1.sl.v13602 i arg2 arg3 arg5 arg6 X_arg2 X_arg3 X_arg5 k f_arg6) := by
  rw [store_2_1, piece_2_1]
  rfl

theorem piece_2_2 :
    trip_k0_t1.sl.r_1731 (F := F) i arg2 arg3 arg5 X_arg2 X_arg3 X_arg5 k =
      level0V (pieceV 2 2 (scoresV (codesAt arg2 X_arg2 k 2) (queriesAt arg5 X_arg5)) (scalesAt i arg3 X_arg3 k)) := id rfl

theorem store_2_2 :
    (k0_pay1950 (F := F) (trip_k0_t1.sl.r_1810 i arg2 arg3 arg5 arg6 X_arg2 X_arg3 X_arg5 k f_arg6)) =
      listTake (trip_k0_t1.sl.v14973 i arg2 arg3 arg5 arg6 X_arg2 X_arg3 X_arg5 k f_arg6) (sort4V (levelV 0 (w := 2) rfl 8 4 rfl (by decide) rfl (trip_k0_t1.sl.r_1731 (F := F) i arg2 arg3 arg5 X_arg2 X_arg3 X_arg5 k))) := id rfl

theorem unit_2_2 :
    (k0_pay1950 (F := F) (trip_k0_t1.sl.r_1810 i arg2 arg3 arg5 arg6 X_arg2 X_arg3 X_arg5 k f_arg6)) =
      unitV 2 2 (scoresV (codesAt arg2 X_arg2 k 2) (queriesAt arg5 X_arg5)) (scalesAt i arg3 X_arg3 k)
        (trip_k0_t1.sl.v14973 i arg2 arg3 arg5 arg6 X_arg2 X_arg3 X_arg5 k f_arg6) := by
  rw [store_2_2, piece_2_2]
  rfl

theorem piece_2_3 :
    trip_k0_t1.sl.r_1920 (F := F) i arg2 arg3 arg5 X_arg2 X_arg3 X_arg5 k =
      level0V (pieceV 2 3 (scoresV (codesAt arg2 X_arg2 k 2) (queriesAt arg5 X_arg5)) (scalesAt i arg3 X_arg3 k)) := id rfl

theorem store_2_3 :
    (k0_pay2152 (F := F) (trip_k0_t1.sl.r_1999 i arg2 arg3 arg5 arg6 X_arg2 X_arg3 X_arg5 k f_arg6)) =
      listTake (trip_k0_t1.sl.v16344 i arg2 arg3 arg5 arg6 X_arg2 X_arg3 X_arg5 k f_arg6) (sort4V (levelV 0 (w := 2) rfl 8 4 rfl (by decide) rfl (trip_k0_t1.sl.r_1920 (F := F) i arg2 arg3 arg5 X_arg2 X_arg3 X_arg5 k))) := id rfl

theorem unit_2_3 :
    (k0_pay2152 (F := F) (trip_k0_t1.sl.r_1999 i arg2 arg3 arg5 arg6 X_arg2 X_arg3 X_arg5 k f_arg6)) =
      unitV 2 3 (scoresV (codesAt arg2 X_arg2 k 2) (queriesAt arg5 X_arg5)) (scalesAt i arg3 X_arg3 k)
        (trip_k0_t1.sl.v16344 i arg2 arg3 arg5 arg6 X_arg2 X_arg3 X_arg5 k f_arg6) := by
  rw [store_2_3, piece_2_3]
  rfl

theorem piece_3_0 :
    trip_k0_t1.sl.r_2130 (F := F) i arg2 arg3 arg5 X_arg2 X_arg3 X_arg5 k =
      levelV 0 (w := 2) rfl 8 4 rfl (by decide) rfl (level0V (pieceV 3 0 (scoresV (codesAt arg2 X_arg2 k 3) (queriesAt arg5 X_arg5)) (scalesAt i arg3 X_arg3 k))) := id rfl

theorem sort_3_0 :
    trip_k0_t1.sl.r_2159 (F := F) i arg2 arg3 arg5 X_arg2 X_arg3 X_arg5 k = sort4V (trip_k0_t1.sl.r_2130 (F := F) i arg2 arg3 arg5 X_arg2 X_arg3 X_arg5 k) := id rfl

theorem store_3_0 :
    (k0_pay2344 (F := F) (trip_k0_t1.sl.r_2184 i arg2 arg3 arg5 arg6 X_arg2 X_arg3 X_arg5 k f_arg6)) =
      listTake (trip_k0_t1.sl.v17723 i arg2 arg3 arg5 arg6 X_arg2 X_arg3 X_arg5 k f_arg6) (trip_k0_t1.sl.r_2159 (F := F) i arg2 arg3 arg5 X_arg2 X_arg3 X_arg5 k) := id rfl

theorem unit_3_0 :
    (k0_pay2344 (F := F) (trip_k0_t1.sl.r_2184 i arg2 arg3 arg5 arg6 X_arg2 X_arg3 X_arg5 k f_arg6)) =
      unitV 3 0 (scoresV (codesAt arg2 X_arg2 k 3) (queriesAt arg5 X_arg5)) (scalesAt i arg3 X_arg3 k)
        (trip_k0_t1.sl.v17723 i arg2 arg3 arg5 arg6 X_arg2 X_arg3 X_arg5 k f_arg6) := by
  rw [store_3_0, sort_3_0, piece_3_0]
  rfl

theorem piece_3_1 :
    trip_k0_t1.sl.r_2314 (F := F) i arg2 arg3 arg5 X_arg2 X_arg3 X_arg5 k =
      levelV 0 (w := 2) rfl 8 4 rfl (by decide) rfl (level0V (pieceV 3 1 (scoresV (codesAt arg2 X_arg2 k 3) (queriesAt arg5 X_arg5)) (scalesAt i arg3 X_arg3 k))) := id rfl

theorem sort_3_1 :
    trip_k0_t1.sl.r_2343 (F := F) i arg2 arg3 arg5 X_arg2 X_arg3 X_arg5 k = sort4V (trip_k0_t1.sl.r_2314 (F := F) i arg2 arg3 arg5 X_arg2 X_arg3 X_arg5 k) := id rfl

theorem store_3_1 :
    (k0_pay2535 (F := F) (trip_k0_t1.sl.r_2368 i arg2 arg3 arg5 arg6 X_arg2 X_arg3 X_arg5 k f_arg6)) =
      listTake (trip_k0_t1.sl.v19094 i arg2 arg3 arg5 arg6 X_arg2 X_arg3 X_arg5 k f_arg6) (trip_k0_t1.sl.r_2343 (F := F) i arg2 arg3 arg5 X_arg2 X_arg3 X_arg5 k) := id rfl

theorem unit_3_1 :
    (k0_pay2535 (F := F) (trip_k0_t1.sl.r_2368 i arg2 arg3 arg5 arg6 X_arg2 X_arg3 X_arg5 k f_arg6)) =
      unitV 3 1 (scoresV (codesAt arg2 X_arg2 k 3) (queriesAt arg5 X_arg5)) (scalesAt i arg3 X_arg3 k)
        (trip_k0_t1.sl.v19094 i arg2 arg3 arg5 arg6 X_arg2 X_arg3 X_arg5 k f_arg6) := by
  rw [store_3_1, sort_3_1, piece_3_1]
  rfl

theorem piece_3_2 :
    trip_k0_t1.sl.r_2498 (F := F) i arg2 arg3 arg5 X_arg2 X_arg3 X_arg5 k =
      levelV 0 (w := 2) rfl 8 4 rfl (by decide) rfl (level0V (pieceV 3 2 (scoresV (codesAt arg2 X_arg2 k 3) (queriesAt arg5 X_arg5)) (scalesAt i arg3 X_arg3 k))) := id rfl

theorem sort_3_2 :
    trip_k0_t1.sl.r_2527 (F := F) i arg2 arg3 arg5 X_arg2 X_arg3 X_arg5 k = sort4V (trip_k0_t1.sl.r_2498 (F := F) i arg2 arg3 arg5 X_arg2 X_arg3 X_arg5 k) := id rfl

theorem store_3_2 :
    (k0_pay2726 (F := F) (trip_k0_t1.sl.r_2552 i arg2 arg3 arg5 arg6 X_arg2 X_arg3 X_arg5 k f_arg6)) =
      listTake (trip_k0_t1.sl.v20465 i arg2 arg3 arg5 arg6 X_arg2 X_arg3 X_arg5 k f_arg6) (trip_k0_t1.sl.r_2527 (F := F) i arg2 arg3 arg5 X_arg2 X_arg3 X_arg5 k) := id rfl

theorem unit_3_2 :
    (k0_pay2726 (F := F) (trip_k0_t1.sl.r_2552 i arg2 arg3 arg5 arg6 X_arg2 X_arg3 X_arg5 k f_arg6)) =
      unitV 3 2 (scoresV (codesAt arg2 X_arg2 k 3) (queriesAt arg5 X_arg5)) (scalesAt i arg3 X_arg3 k)
        (trip_k0_t1.sl.v20465 i arg2 arg3 arg5 arg6 X_arg2 X_arg3 X_arg5 k f_arg6) := by
  rw [store_3_2, sort_3_2, piece_3_2]
  rfl

theorem piece_3_3 :
    trip_k0_t1.sl.r_2682 (F := F) i arg2 arg3 arg5 X_arg2 X_arg3 X_arg5 k =
      levelV 0 (w := 2) rfl 8 4 rfl (by decide) rfl (level0V (pieceV 3 3 (scoresV (codesAt arg2 X_arg2 k 3) (queriesAt arg5 X_arg5)) (scalesAt i arg3 X_arg3 k))) := id rfl

theorem sort_3_3 :
    trip_k0_t1.sl.r_2711 (F := F) i arg2 arg3 arg5 X_arg2 X_arg3 X_arg5 k = sort4V (trip_k0_t1.sl.r_2682 (F := F) i arg2 arg3 arg5 X_arg2 X_arg3 X_arg5 k) := id rfl

theorem store_3_3 :
    (k0_pay3 (F := F) (trip_k0_t1.sl.r_2736 i arg2 arg3 arg5 arg6 X_arg2 X_arg3 X_arg5 k f_arg6)) =
      listTake (trip_k0_t1.sl.v21836 i arg2 arg3 arg5 arg6 X_arg2 X_arg3 X_arg5 k f_arg6) (trip_k0_t1.sl.r_2711 (F := F) i arg2 arg3 arg5 X_arg2 X_arg3 X_arg5 k) := id rfl

theorem unit_3_3 :
    (k0_pay3 (F := F) (trip_k0_t1.sl.r_2736 i arg2 arg3 arg5 arg6 X_arg2 X_arg3 X_arg5 k f_arg6)) =
      unitV 3 3 (scoresV (codesAt arg2 X_arg2 k 3) (queriesAt arg5 X_arg5)) (scalesAt i arg3 X_arg3 k)
        (trip_k0_t1.sl.v21836 i arg2 arg3 arg5 arg6 X_arg2 X_arg3 X_arg5 k f_arg6) := by
  rw [store_3_3, sort_3_3, piece_3_3]
  rfl

end Cert.Proof
-- ==== Proof.Trip.lean ====
/- One trip over the tiles: every list takes in the four units of its tile, one after the other. -/
module

public import proofs.«01_k».proof.Proof.UnitsA
public import proofs.«01_k».proof.Proof.UnitsB
public import proofs.«01_k».proof.Proof.UnitsC

@[expose] public section

set_option maxRecDepth 100000
set_option maxHeartbeats 0

noncomputable section

namespace Cert.Proof

open Idealize.ShloMosaic Cert.KernelIdeal Cert.KernelIdeal.Gen

variable {F : FTy → Type} [FloatOps F]

/-- A list after the four units of a tile. -/
def tileV (g : Fin 4) (s : Fin 4 → FVec F S256x512 .f32) (sT : FVec F S128x8 .f32)
    (best : FVec F S1x128x8x128 .f32) : FVec F S1x128x8x128 .f32 :=
  unitV 3 g (s 3) sT (unitV 2 g (s 2) sT (unitV 1 g (s 1) sT (unitV 0 g (s 0) sT best)))

theorem listRect_disjoint {g h : Fin 4} (hgh : g ≠ h) : Disjoint (listRect g).set (listRect h).set := by
  rw [Finset.disjoint_left]
  intro y hy hy'
  rw [Rect.mem_set_unit] at hy hy'
  have h1 := hy (0 : Fin 4)
  have h2 := hy' (0 : Fin 4)
  simp [S1x128x8x128] at h1 h2
  omega

section
variable (v : View sig .tc .vmem S4x128x8x128 .f32) (f : v.ty.Contents (Elt F)) (L : List (View.Piece (Elt F) S4x128x8x128 .f32))

theorem readAt_hit (g : Fin 4) (w : FVec F S1x128x8x128 .f32) :
    v.readAt (Elt F) (listRect g).toLoadRect (v.writes (Elt F) f (⟨listRect g, w⟩ :: L)) = w := by
  funext x
  exact View.read_writes_cons_emb v f (listRect g) w L x

theorem readAt_miss {g h : Fin 4} (hgh : g ≠ h) (w : FVec F S1x128x8x128 .f32) :
    v.readAt (Elt F) (listRect h).toLoadRect (v.writes (Elt F) f (⟨listRect g, w⟩ :: L)) =
      v.readAt (Elt F) (listRect h).toLoadRect (v.writes (Elt F) f L) := by
  funext x
  refine View.read_slice_write_of_not_mem (listRect g) _ _ _ ?_
  rw [Rect.map_emb_univ]
  exact Finset.disjoint_right.mp (listRect_disjoint hgh) ((listRect h).toLoadRect.idx_mem x)

theorem readAt_fourth (a b c d : Fin 4) (ha : a ≠ d) (hb : b ≠ d) (hc : c ≠ d)
    (wa wb wc wd : FVec F S1x128x8x128 .f32) :
    v.readAt (Elt F) (listRect d).toLoadRect
      (v.writes (Elt F) f (⟨listRect a, wa⟩ :: ⟨listRect b, wb⟩ :: ⟨listRect c, wc⟩ :: ⟨listRect d, wd⟩ :: L)) = wd := by
  rw [readAt_miss v f _ ha, readAt_miss v f _ hb, readAt_miss v f _ hc, readAt_hit]

theorem readAt_four (w0 w1 w2 w3 : FVec F S1x128x8x128 .f32) (g : Fin 4) :
    v.readAt (Elt F) (listRect g).toLoadRect
      (v.writes (Elt F) f (⟨listRect 3, w3⟩ :: ⟨listRect 2, w2⟩ :: ⟨listRect 1, w1⟩ :: ⟨listRect 0, w0⟩ :: L)) =
      ![w0, w1, w2, w3] g := by
  fin_cases g
  · exact readAt_fourth v f L 3 2 1 0 (by decide) (by decide) (by decide) _ _ _ _
  · refine (readAt_miss v f _ (by decide) _).trans ((readAt_miss v f _ (by decide) _).trans (readAt_hit v f _ 1 _))
  · refine (readAt_miss v f _ (by decide) _).trans (readAt_hit v f _ 2 _)
  · exact readAt_hit v f _ 3 _
end

variable (i : grid0.Coords) (arg2 : Memref sig .tc .vmem S2048x768 .i8) (arg3 : Memref sig .tc .vmem S3840x128 .f32)
  (arg5 : Memref sig .tc .vmem S768x512 .bf16) (arg6 : Memref sig .tc .vmem S4x128x8x128 .f32)
  (X_arg2 : arg2.view.ty.Contents (Elt F)) (X_arg3 : arg3.view.ty.Contents (Elt F))
  (X_arg5 : arg5.view.ty.Contents (Elt F)) (k : Fin k0_t1_loop.trips) (f_arg6 : arg6.view.ty.Contents (Elt F))

theorem best_1_0 :
    (trip_k0_t1.sl.v6739 i arg2 arg3 arg5 arg6 X_arg2 X_arg3 X_arg5 k f_arg6) =
      (k0_pay180 (F := F) (trip_k0_t1.sl.r_164 i arg2 arg3 arg5 arg6 X_arg2 X_arg3 X_arg5 k f_arg6) (trip_k0_t1.sl.r_165 i arg2 arg3 arg5 arg6 X_arg2 X_arg3 X_arg5 k f_arg6)) :=
  id (readAt_fourth arg6.view _ _ 3 2 1 0 (by decide) (by decide) (by decide) _ _ _ _)

theorem best_1_1 :
    (trip_k0_t1.sl.v8110 i arg2 arg3 arg5 arg6 X_arg2 X_arg3 X_arg5 k f_arg6) =
      (k0_pay354 (F := F) (trip_k0_t1.sl.r_328 i arg2 arg3 arg5 arg6 X_arg2 X_arg3 X_arg5 k f_arg6) (trip_k0_t1.sl.r_329 i arg2 arg3 arg5 arg6 X_arg2 X_arg3 X_arg5 k f_arg6)) :=
  id (readAt_fourth arg6.view _ _ 0 3 2 1 (by decide) (by decide) (by decide) _ _ _ _)

theorem best_1_2 :
    (trip_k0_t1.sl.v9481 i arg2 arg3 arg5 arg6 X_arg2 X_arg3 X_arg5 k f_arg6) =
      (k0_pay528 (F := F) (trip_k0_t1.sl.r_492 i arg2 arg3 arg5 arg6 X_arg2 X_arg3 X_arg5 k f_arg6) (trip_k0_t1.sl.r_493 i arg2 arg3 arg5 arg6 X_arg2 X_arg3 X_arg5 k f_arg6)) :=
  id (readAt_fourth arg6.view _ _ 1 0 3 2 (by decide) (by decide) (by decide) _ _ _ _)

theorem best_1_3 :
    (trip_k0_t1.sl.v10852 i arg2 arg3 arg5 arg6 X_arg2 X_arg3 X_arg5 k f_arg6) =
      (k0_pay702 (F := F) (trip_k0_t1.sl.r_656 i arg2 arg3 arg5 arg6 X_arg2 X_arg3 X_arg5 k f_arg6) (trip_k0_t1.sl.r_657 i arg2 arg3 arg5 arg6 X_arg2 X_arg3 X_arg5 k f_arg6)) :=
  id (readAt_fourth arg6.view _ _ 2 1 0 3 (by decide) (by decide) (by decide) _ _ _ _)

theorem best_2_0 :
    (trip_k0_t1.sl.v12231 i arg2 arg3 arg5 arg6 X_arg2 X_arg3 X_arg5 k f_arg6) =
      (k0_pay863 (F := F) (trip_k0_t1.sl.r_803 i arg2 arg3 arg5 arg6 X_arg2 X_arg3 X_arg5 k f_arg6) (trip_k0_t1.sl.r_804 i arg2 arg3 arg5 arg6 X_arg2 X_arg3 X_arg5 k f_arg6)) :=
  id (readAt_fourth arg6.view _ _ 3 2 1 0 (by decide) (by decide) (by decide) _ _ _ _)

theorem best_2_1 :
    (trip_k0_t1.sl.v13602 i arg2 arg3 arg5 arg6 X_arg2 X_arg3 X_arg5 k f_arg6) =
      (k0_pay1023 (F := F) (trip_k0_t1.sl.r_949 i arg2 arg3 arg5 arg6 X_arg2 X_arg3 X_arg5 k f_arg6) (trip_k0_t1.sl.r_950 i arg2 arg3 arg5 arg6 X_arg2 X_arg3 X_arg5 k f_arg6)) :=
  id (readAt_fourth arg6.view _ _ 0 3 2 1 (by decide) (by decide) (by decide) _ _ _ _)

theorem best_2_2 :
    (trip_k0_t1.sl.v14973 i arg2 arg3 arg5 arg6 X_arg2 X_arg3 X_arg5 k f_arg6) =
      (k0_pay1183 (F := F) (trip_k0_t1.sl.r_1095 i arg2 arg3 arg5 arg6 X_arg2 X_arg3 X_arg5 k f_arg6) (trip_k0_t1.sl.r_1096 i arg2 arg3 arg5 arg6 X_arg2 X_arg3 X_arg5 k f_arg6)) :=
  id (readAt_fourth arg6.view _ _ 1 0 3 2 (by decide) (by decide) (by decide) _ _ _ _)

theorem best_2_3 :
    (trip_k0_t1.sl.v16344 i arg2 arg3 arg5 arg6 X_arg2 X_arg3 X_arg5 k f_arg6) =
      (k0_pay1343 (F := F) (trip_k0_t1.sl.r_1241 i arg2 arg3 arg5 arg6 X_arg2 X_arg3 X_arg5 k f_arg6) (trip_k0_t1.sl.r_1242 i arg2 arg3 arg5 arg6 X_arg2 X_arg3 X_arg5 k f_arg6)) :=
  id (readAt_fourth arg6.view _ _ 2 1 0 3 (by decide) (by decide) (by decide) _ _ _ _)

theorem best_3_0 :
    (trip_k0_t1.sl.v17723 i arg2 arg3 arg5 arg6 X_arg2 X_arg3 X_arg5 k f_arg6) =
      (k0_pay1546 (F := F) (trip_k0_t1.sl.r_1432 i arg2 arg3 arg5 arg6 X_arg2 X_arg3 X_arg5 k f_arg6)) :=
  id (readAt_fourth arg6.view _ _ 3 2 1 0 (by decide) (by decide) (by decide) _ _ _ _)

theorem best_3_1 :
    (trip_k0_t1.sl.v19094 i arg2 arg3 arg5 arg6 X_arg2 X_arg3 X_arg5 k f_arg6) =
      (k0_pay1748 (F := F) (trip_k0_t1.sl.r_1621 i arg2 arg3 arg5 arg6 X_arg2 X_arg3 X_arg5 k f_arg6)) :=
  id (readAt_fourth arg6.view _ _ 0 3 2 1 (by decide) (by decide) (by decide) _ _ _ _)

theorem best_3_2 :
    (trip_k0_t1.sl.v20465 i arg2 arg3 arg5 arg6 X_arg2 X_arg3 X_arg5 k f_arg6) =
      (k0_pay1950 (F := F) (trip_k0_t1.sl.r_1810 i arg2 arg3 arg5 arg6 X_arg2 X_arg3 X_arg5 k f_arg6)) :=
  id (readAt_fourth arg6.view _ _ 1 0 3 2 (by decide) (by decide) (by decide) _ _ _ _)

theorem best_3_3 :
    (trip_k0_t1.sl.v21836 i arg2 arg3 arg5 arg6 X_arg2 X_arg3 X_arg5 k f_arg6) =
      (k0_pay2152 (F := F) (trip_k0_t1.sl.r_1999 i arg2 arg3 arg5 arg6 X_arg2 X_arg3 X_arg5 k f_arg6)) :=
  id (readAt_fourth arg6.view _ _ 2 1 0 3 (by decide) (by decide) (by decide) _ _ _ _)

theorem tile_0 :
    (k0_pay2344 (F := F) (trip_k0_t1.sl.r_2184 i arg2 arg3 arg5 arg6 X_arg2 X_arg3 X_arg5 k f_arg6)) =
      tileV 0 (fun u => scoresV (codesAt arg2 X_arg2 k u) (queriesAt arg5 X_arg5)) (scalesAt i arg3 X_arg3 k)
        (View.readAt (Elt F) arg6.view (listRect 0).toLoadRect f_arg6) := by
  rw [unit_3_0, best_3_0, unit_2_0, best_2_0, unit_1_0, best_1_0, unit_0_0]
  rfl

theorem tile_1 :
    (k0_pay2535 (F := F) (trip_k0_t1.sl.r_2368 i arg2 arg3 arg5 arg6 X_arg2 X_arg3 X_arg5 k f_arg6)) =
      tileV 1 (fun u => scoresV (codesAt arg2 X_arg2 k u) (queriesAt arg5 X_arg5)) (scalesAt i arg3 X_arg3 k)
        (View.readAt (Elt F) arg6.view (listRect 1).toLoadRect f_arg6) := by
  rw [unit_3_1, best_3_1, unit_2_1, best_2_1, unit_1_1, best_1_1, unit_0_1]
  rfl

theorem tile_2 :
    (k0_pay2726 (F := F) (trip_k0_t1.sl.r_2552 i arg2 arg3 arg5 arg6 X_arg2 X_arg3 X_arg5 k f_arg6)) =
      tileV 2 (fun u => scoresV (codesAt arg2 X_arg2 k u) (queriesAt arg5 X_arg5)) (scalesAt i arg3 X_arg3 k)
        (View.readAt (Elt F) arg6.view (listRect 2).toLoadRect f_arg6) := by
  rw [unit_3_2, best_3_2, unit_2_2, best_2_2, unit_1_2, best_1_2, unit_0_2]
  rfl

theorem tile_3 :
    (k0_pay3 (F := F) (trip_k0_t1.sl.r_2736 i arg2 arg3 arg5 arg6 X_arg2 X_arg3 X_arg5 k f_arg6)) =
      tileV 3 (fun u => scoresV (codesAt arg2 X_arg2 k u) (queriesAt arg5 X_arg5)) (scalesAt i arg3 X_arg3 k)
        (View.readAt (Elt F) arg6.view (listRect 3).toLoadRect f_arg6) := by
  rw [unit_3_3, best_3_3, unit_2_3, best_2_3, unit_1_3, best_1_3, unit_0_3]
  rfl

/-- The contents of the lists' memory after a trip, a list at a time. -/
theorem trip_read (𝒱 : Variants) (c : Dev nD) (bd : Option 𝒱.V) (arg1 : Memref sig .tc .vmem S512x768 .bf16)
    (harg1 : arg1.IsWhole) (harg2 : arg2.IsWhole) (harg3 : arg3.IsWhole) (arg4 : Memref sig .tc .vmem S512x100 .f32)
    (harg4 : arg4.IsWhole) (harg5 : arg5.IsWhole) (harg6 : arg6.IsWhole) (arg0 : BitVec 32) (g : Fin 4)
    (v : View sig .tc .vmem S4x128x8x128 .f32) (f : v.ty.Contents (Elt F))
    (L : List (View.Piece (Elt F) S4x128x8x128 .f32)) :
    View.readAt (Elt F) v (listRect g).toLoadRect (v.writes (Elt F) f
      (tripL_k0_t1 (F := F) 𝒱 c bd i arg1 harg1 arg2 harg2 arg3 harg3 arg4 harg4 arg5 harg5 arg6 harg6 arg0
        X_arg2 X_arg3 X_arg5 k f_arg6 ++ L)) =
      tileV g (fun u => scoresV (codesAt arg2 X_arg2 k u) (queriesAt arg5 X_arg5)) (scalesAt i arg3 X_arg3 k)
        (View.readAt (Elt F) arg6.view (listRect g).toLoadRect f_arg6) := by
  have hL : tripL_k0_t1 (F := F) 𝒱 c bd i arg1 harg1 arg2 harg2 arg3 harg3 arg4 harg4 arg5 harg5 arg6 harg6 arg0
      X_arg2 X_arg3 X_arg5 k f_arg6 ++ L =
      (⟨listRect 3, (k0_pay3 (F := F) (trip_k0_t1.sl.r_2736 i arg2 arg3 arg5 arg6 X_arg2 X_arg3 X_arg5 k f_arg6))⟩ ::
        ⟨listRect 2, (k0_pay2726 (F := F) (trip_k0_t1.sl.r_2552 i arg2 arg3 arg5 arg6 X_arg2 X_arg3 X_arg5 k f_arg6))⟩ ::
        ⟨listRect 1, (k0_pay2535 (F := F) (trip_k0_t1.sl.r_2368 i arg2 arg3 arg5 arg6 X_arg2 X_arg3 X_arg5 k f_arg6))⟩ ::
        ⟨listRect 0, (k0_pay2344 (F := F) (trip_k0_t1.sl.r_2184 i arg2 arg3 arg5 arg6 X_arg2 X_arg3 X_arg5 k f_arg6))⟩ ::
        (trip_k0_t1.sl.HW_arg6_12 i arg2 arg3 arg5 arg6 X_arg2 X_arg3 X_arg5 k f_arg6 ++ L)) := by
    unfold tripL_k0_t1 trip_k0_t1
    exact id rfl
  rw [hL, readAt_four]
  fin_cases g
  · exact tile_0 i arg2 arg3 arg5 arg6 X_arg2 X_arg3 X_arg5 k f_arg6
  · exact tile_1 i arg2 arg3 arg5 arg6 X_arg2 X_arg3 X_arg5 k f_arg6
  · exact tile_2 i arg2 arg3 arg5 arg6 X_arg2 X_arg3 X_arg5 k f_arg6
  · exact tile_3 i arg2 arg3 arg5 arg6 X_arg2 X_arg3 X_arg5 k f_arg6

end Cert.Proof
-- ==== Proof.Point.lean ====
/- One grid point: every list takes in the two tiles of the point's block. -/
module

public import Idealize.ShloMosaic.Lib.Pipeline.ValueKit.Basic
public import proofs.«01_k».proof.Proof.Trip
public import proofs.«01_k».proof.Proof.Gen.KernelIdeal.Value

@[expose] public section

set_option maxRecDepth 100000
set_option maxHeartbeats 0

noncomputable section

namespace Cert.Proof

open Idealize.ShloMosaic Cert.KernelIdeal Cert.KernelIdeal.Gen

variable {F : FTy → Type} [FloatOps F]

/-- The first tile of a block. -/
abbrev trip0 : Fin k0_t1_loop.trips := ⟨0, by decide⟩
/-- The second. -/
abbrev trip1 : Fin k0_t1_loop.trips := ⟨1, by decide⟩

/-- The codes of the unit `u` of a block's tile `k`. -/
abbrev codesV (x1 : Vec F S2048x768 .i8) (k : Fin k0_t1_loop.trips) (u : Fin 4) : Vec F S256x768 .i8 :=
  View.ld (Val := Elt F) x1 (Rect.unit (s := S2048x768) (k0_off2 k (BitVec.ofNat 32 (256 * u.val))) S256x768.size
    (Cert.KernelIdeal.Gen.k0_off2_inb k u))

/-- The scales of a block's tile `k`. -/
abbrev scalesV (i : grid0.Coords) (x2 : Vec F S3840x128 .f32) (k : Fin k0_t1_loop.trips) : FVec F S128x8 .f32 :=
  k0_pay5 (View.ld (Val := Elt F) x2 (Rect.unit (s := S3840x128) (k0_off1 i k) S8x128.size
    (Cert.KernelIdeal.Gen.k0_off1_inb i k)))

/-- A list after the tile `k` of a block. -/
abbrev tripV (i : grid0.Coords) (g : Fin 4) (q : Vec F S768x512 .bf16) (x1 : Vec F S2048x768 .i8)
    (x2 : Vec F S3840x128 .f32) (k : Fin k0_t1_loop.trips) (best : FVec F S1x128x8x128 .f32) :
    FVec F S1x128x8x128 .f32 :=
  tileV g (fun u => scoresV (codesV x1 k u) q) (scalesV i x2 k) best

/-- A list after a block. -/
abbrev pointV (i : grid0.Coords) (g : Fin 4) (q : Vec F S768x512 .bf16) (x1 : Vec F S2048x768 .i8)
    (x2 : Vec F S3840x128 .f32) (best : FVec F S1x128x8x128 .f32) : FVec F S1x128x8x128 .f32 :=
  tripV i g q x1 x2 trip1 (tripV i g q x1 x2 trip0 best)

/-- A list of the four. -/
abbrev listV (x : FVec F S4x128x8x128 .f32) (g : Fin 4) : FVec F S1x128x8x128 .f32 :=
  View.ld (Val := Elt F) (e' := .f32) x (listRect g)

variable (c : Dev nD) (i : grid0.Coords) (arg1 : Memref sig .tc .vmem S512x768 .bf16) (harg1 : arg1.IsWhole) (arg2 : Memref sig .tc .vmem S2048x768 .i8) (harg2 : arg2.IsWhole)
  (arg3 : Memref sig .tc .vmem S3840x128 .f32) (harg3 : arg3.IsWhole) (arg4 : Memref sig .tc .vmem S512x100 .f32) (harg4 : arg4.IsWhole)
  (arg5 : Memref sig .tc .vmem S768x512 .bf16) (harg5 : arg5.IsWhole) (arg6 : Memref sig .tc .vmem S4x128x8x128 .f32) (harg6 : arg6.IsWhole)

/-- The lists read after both trips, through whatever view they are written. -/
theorem two_read (𝒱 : Variants) (bd : Option 𝒱.V) (arg0 : BitVec 32) (q : Vec F S768x512 .bf16)
    (x1 : Vec F S2048x768 .i8) (x2 : Vec F S3840x128 .f32) (X_arg5 : arg5.view.ty.Contents (Elt F))
    (hq : View.read (Elt F) arg5.view X_arg5 = q) (G : arg6.view.ty.Contents (Elt F)) (g : Fin 4)
    (v : View sig .tc .vmem S4x128x8x128 .f32) (f : v.ty.Contents (Elt F))
    (L : List (View.Piece (Elt F) S4x128x8x128 .f32)) :
    View.readAt (Elt F) v (listRect g).toLoadRect (v.writes (Elt F) f
      (pb_k0_t1 (F := F) 𝒱 c bd i arg1 harg1 arg2 harg2 arg3 harg3 arg4 harg4 arg5 harg5 arg6 harg6 arg0 (harg2.unread x1)
        (harg3.unread x2) X_arg5 G (Scf.trips (0#32) (Scalar.addi 0#32 2#32) 1#32) ++ L)) =
      pointV i g q x1 x2 (listV (View.read (Elt F) arg6.view G) g) := by
  have hs1 := pb_k0_t1_succ (F := F) 𝒱 c bd i arg1 harg1 arg2 harg2 arg3 harg3 arg4 harg4 arg5 harg5 arg6 harg6 arg0
    (harg2.unread x1) (harg3.unread x2) X_arg5 G trip1
  have hs0 := pb_k0_t1_succ (F := F) 𝒱 c bd i arg1 harg1 arg2 harg2 arg3 harg3 arg4 harg4 arg5 harg5 arg6 harg6 arg0
    (harg2.unread x1) (harg3.unread x2) X_arg5 G trip0
  have hq' : queriesAt arg5 X_arg5 = q := (View.ld_unit_lit _ _ (by decide)).trans hq
  have h2 : (fun k u => codesAt arg2 (harg2.unread x1) k u) = fun k u => codesV x1 k u := by
    funext k u
    exact congrArg (fun y => codesV y k u) (harg2.read_unread x1)
  have h3 : (fun k => scalesAt i arg3 (harg3.unread x2) k) = fun k => scalesV i x2 k := by
    funext k
    exact congrArg (fun y => scalesV i y k) (harg3.read_unread x2)
  have t : ∀ (k : Fin k0_t1_loop.trips) (f6 : arg6.view.ty.Contents (Elt F))
      (v : View sig .tc .vmem S4x128x8x128 .f32) (f : v.ty.Contents (Elt F))
      (L : List (View.Piece (Elt F) S4x128x8x128 .f32)),
      View.readAt (Elt F) v (listRect g).toLoadRect (v.writes (Elt F) f
        (tripL_k0_t1 (F := F) 𝒱 c bd i arg1 harg1 arg2 harg2 arg3 harg3 arg4 harg4 arg5 harg5 arg6 harg6 arg0 (harg2.unread x1)
          (harg3.unread x2) X_arg5 k f6 ++ L)) =
        tripV i g q x1 x2 k (View.readAt (Elt F) arg6.view (listRect g).toLoadRect f6) := by
    intro k f6 v f L
    rw [trip_read, hq', congrFun h3 k]
    refine congrArg (fun s => tileV g s _ _) ?_
    funext u
    rw [congrFun (congrFun h2 k) u]
  refine (congrArg (fun P => View.readAt (Elt F) v (listRect g).toLoadRect (v.writes (Elt F) f (P ++ L))) hs1).trans ?_
  rw [List.append_assoc]
  refine (t trip1 _ v f _).trans ?_
  refine congrArg (tripV i g q x1 x2 trip1) ?_
  refine (congrArg (fun P => View.readAt (Elt F) arg6.view (listRect g).toLoadRect
    (arg6.view.writes (Elt F) G P)) hs0).trans ?_
  exact t _ _ _ _ _

variable (hc0 : cond0_0 i) (hn0 : ¬cond0_0 i) (hc1 : cond0_1 i) (hn1 : ¬cond0_1 i)
  (x0 : Vec F S512x768 .bf16) (x1 : Vec F S2048x768 .i8) (x2 : Vec F S3840x128 .f32) (xs0 : Vec F S768x512 .bf16)
  (xs1 : Vec F S4x128x8x128 .f32) (g : Fin 4)

/-- The lists a point in the middle leaves. -/
theorem lists_B : listV (sout0_B_1 c i arg1 harg1 arg2 harg2 arg3 harg3 arg4 harg4 arg5 harg5 arg6 harg6 hn0 hn1 x0 x1 x2 xs0 xs1) g =
    pointV i g xs0 x1 x2 (listV xs1 g) := by
  have h := two_read c i arg1 harg1 arg2 harg2 arg3 harg3 arg4 harg4 arg5 harg5 arg6 harg6 Variants.none none (BitVec.ofNat 32 (i 0)) xs0 x1 x2 (harg5.unread xs0)
    (harg5.read_unread xs0) (harg6.unread xs1) g VS0_1 VS0_1.junk []
  rw [List.append_nil, harg6.read_unread] at h
  exact h

/-- The lists the last point leaves. -/
theorem lists_C : listV (sout0_C_1 c i arg1 harg1 arg2 harg2 arg3 harg3 arg4 harg4 arg5 harg5 arg6 harg6 hn0 hc1 x0 x1 x2 xs0 xs1) g =
    pointV i g xs0 x1 x2 (listV xs1 g) := by
  have h := two_read c i arg1 harg1 arg2 harg2 arg3 harg3 arg4 harg4 arg5 harg5 arg6 harg6 Variants.none none (BitVec.ofNat 32 (i 0)) xs0 x1 x2 (harg5.unread xs0)
    (harg5.read_unread xs0) (harg6.unread xs1) g VS0_1 VS0_1.junk []
  rw [List.append_nil, harg6.read_unread] at h
  exact h

theorem queries_canon : View.canon (kernelRun0_A.sl.HS0_1 c arg1 harg1 x0) = k0_pay1 x0 := by
  refine (View.canon_cons_unit_lit _ _ _ (by decide)).trans ?_
  refine congrArg k0_pay1 ?_
  refine (View.ld_unit_lit _ _ (by decide)).trans ?_
  exact harg1.read_unread x0

/-- The queries the first point leaves. -/
theorem queries_A : sout0_A_0 c i arg1 harg1 arg2 harg2 arg3 harg3 arg4 harg4 arg5 harg5 arg6 harg6 hc0 hn1 x0 x1 x2 = k0_pay1 x0 := by
  have h : VS0_0.read (Elt F) (VS0_0.writes (Elt F) VS0_0.junk (kernelRun0_A.sl.HS0_1 c arg1 harg1 x0)) =
      k0_pay1 x0 := by
    rw [View.read_writes_junk_eq_canon]
    exact queries_canon c arg1 harg1 x0
  exact h

/-- The lists the first point leaves. -/
theorem lists_A : listV (sout0_A_1 c i arg1 harg1 arg2 harg2 arg3 harg3 arg4 harg4 arg5 harg5 arg6 harg6 hc0 hn1 x0 x1 x2) g =
    pointV i g (k0_pay1 x0) x1 x2 (listV k0_pay2 g) := by
  have hq : View.read (Elt F) arg5.view (arg5.view.writes (Elt F) arg5.view.junk (kernelRun0_A.sl.HS0_1 c arg1 harg1 x0)) =
      k0_pay1 x0 := by
    rw [View.read_writes_junk_eq_canon]
    exact queries_canon c arg1 harg1 x0
  have hl : View.read (Elt F) arg6.view (arg6.view.writes (Elt F) arg6.view.junk kernelRun0_A.sl.HS1_1) =
      k0_pay2 := by
    rw [View.read_writes_junk_eq_canon]
    exact View.canon_cons_unit_lit _ _ _ (by decide)
  have h := two_read c i arg1 harg1 arg2 harg2 arg3 harg3 arg4 harg4 arg5 harg5 arg6 harg6 Variants.none none (BitVec.ofNat 32 (i 0)) (k0_pay1 x0) x1 x2 _
    hq (arg6.view.writes (Elt F) arg6.view.junk kernelRun0_A.sl.HS1_1) g VS0_1 VS0_1.junk kernelRun0_A.sl.HS1_1
  rw [hl] at h
  exact h

end Cert.Proof
-- ==== Proof.Top.lean ====
/- What the sorting network of `Net` leaves, over the extended reals: a column of the sorted piece is the column of
   the piece in descending order, and a column of the list that takes it in holds the largest entries of both. -/
module

public import proofs.«01_k».proof.Proof.Net
public import proofs.«01_k».proof.Proof.Merge

@[expose] public section

noncomputable section

namespace Cert.Proof

open Idealize.ShloMosaic Idealize.ShloMosaic.ValueIdx

/-- How many of the first `n` entries of a sequence are at least `t`. -/
def cnt (n : ℕ) (f : ℕ → EReal) (t : EReal) : ℕ := ∑ i ∈ Finset.range n, if t ≤ f i then 1 else 0

theorem cnt_add (m n : ℕ) (f : ℕ → EReal) (t : EReal) : cnt (m + n) f t = cnt m f t + cnt n (fun i => f (m + i)) t :=
  Finset.sum_range_add _ _ _

theorem cnt_le (n : ℕ) (f : ℕ → EReal) (t : EReal) : cnt n f t ≤ n := by
  unfold cnt
  rw [← Finset.card_filter]
  exact (Finset.card_filter_le _ _).trans (Finset.card_range n).le

theorem cnt_congr {n : ℕ} {f g : ℕ → EReal} (h : ∀ i, i < n → f i = g i) (t : EReal) : cnt n f t = cnt n g t :=
  Finset.sum_congr rfl fun i hi => by rw [h i (Finset.mem_range.mp hi)]

theorem IsTop.congr {n : ℕ} {f g : ℕ → EReal} {c d : EReal → ℕ} (h : IsTop n f c) (hf : ∀ i, i < n → g i = f i)
    (hc : ∀ t, d t = c t) : IsTop n g d := fun t i hi => by rw [hf i hi, hc t]; exact h t i hi

theorem isTop_one (f : ℕ → EReal) : IsTop 1 f (cnt 1 f) := fun t i hi => by
  obtain rfl : i = 0 := by omega
  unfold cnt
  rw [Finset.sum_range_one]
  by_cases h : t ≤ f 0 <;> simp [h]

/-- The sorted runs of `w` entries of a column of `x` hold the runs of the sequence `f`. -/
def Runs (w : ℕ) (x : FVec Ideal (VS 32) .f32) (s : Fin 8) (l : Fin 128) (f : ℕ → EReal) : Prop :=
  ∀ p, (p + 1) * w ≤ 32 → IsTop w (fun i => col x s l (p * w + i)) (cnt w fun i => f (p * w + i))

theorem col_merge2 (x : FVec Ideal (VS 32) .f32) (s : Fin 8) (l : Fin 128) (f : ℕ → EReal) (hx : Runs 1 x s l f)
    (p : ℕ) (hp : 2 * p + 1 + 1 ≤ 32) :
    IsTop 2 (col (merge2 x (2 * p) hp) s l) (cnt 2 fun i => f (2 * p + i)) := by
  have ha := hx (2 * p) (by omega)
  have hb := hx (2 * p + 1) (by omega)
  rw [Nat.mul_one] at ha hb
  unfold merge2
  rw [col_mergeV]
  refine (IsTop.mergeFull (k := 0) (f := col (pairV (m := 1) (m' := 1) rfl (sliceV 1 (2 * p) (by omega) x)
    (sliceV 1 (2 * p + 1) (by omega) x)) s l) 0 (dvd_zero _) ha hb (cnt_le 1 _) (cnt_le 1 _) ?_ ?_).congr ?_ ?_
  · intro i hi
    rw [Nat.zero_add, col_pairV_left _ _ _ _ _ (by simpa using hi), col_sliceV _ _ _ _ (by simpa using hi)]
  · intro i hi
    obtain rfl : i = 0 := by simpa using hi
    exact (col_pairV_right (m := 1) (m' := 1) rfl _ _ s l (i := 0) (by omega)).trans (col_sliceV _ _ _ _ (by omega))
  · intro i _
    exact congrArg _ (Nat.zero_add i).symm
  · intro t
    exact cnt_add 1 1 _ t

theorem col_mergeW (k : ℕ) {w : ℕ} (hw : w = 2 ^ (k + 1)) {n : ℕ} (hn : w + w = n) (x : FVec Ideal (VS 32) .f32)
    (s : Fin 8) (l : Fin 128) (f : ℕ → EReal) (hx : Runs w x s l f) (p o : ℕ) (ho : o = n * p) (h : o + w + w ≤ 32) :
    IsTop n (col (mergeW k hw hn x o h) s l) (cnt n fun i => f (o + i)) := by
  subst hn
  have e1 : 2 * p * w = o := by rw [ho]; ring
  have e2 : (2 * p + 1) * w = o + w := by rw [ho]; ring
  have ha := hx (2 * p) (by rw [Nat.add_mul, e1]; omega)
  have hb := hx (2 * p + 1) (by rw [Nat.add_mul, e2]; omega)
  rw [e1] at ha
  rw [e2] at hb
  have hw0 : 2 ≤ w := by rw [hw, Nat.pow_succ]; have := Nat.two_pow_pos k; omega
  have hW : w + w = 2 ^ (k + 1 + 1) := by rw [hw]; ring
  unfold mergeW
  rw [col_mergeV]
  rw [hw] at ha hb
  have key := IsTop.mergeFull (k := k + 1) (f := col (pairV (m := w) (m' := w) rfl (sliceV w o (by omega) x)
    (flipV hw0 (sliceV w (o + w) (by omega) x))) s l) 0 (dvd_zero _) ha hb (cnt_le _ _) (cnt_le _ _) (by
      intro i hi
      rw [← hw] at hi
      rw [Nat.zero_add, col_pairV_left _ _ _ _ _ hi, col_sliceV _ _ _ _ hi]) (by
      intro i hi
      rw [← hw] at hi ⊢
      rw [Nat.zero_add, col_pairV_right _ _ _ _ _ hi, col_flipV _ _ _ _ hi, col_sliceV _ _ _ _ (by omega)])
  rw [← hW] at key
  refine key.congr (fun i _ => by rw [Nat.zero_add]) fun t => ?_
  rw [← hw, cnt_add]
  simp only [Nat.add_assoc]

theorem runs_level0V (x : FVec Ideal (VS 32) .f32) (s : Fin 8) (l : Fin 128) (f : ℕ → EReal) (hx : Runs 1 x s l f) :
    Runs 2 (level0V x) s l f := fun p hp => by
  have hp' : p < 16 := by omega
  have h := col_merge2 x s l f hx p (by omega)
  refine h.congr (fun i hi => ?_) fun t => by rw [Nat.mul_comm p 2]
  exact col_concatN (fun p : Fin 16 => merge2 x (2 * p.val) (by omega)) _ (by decide) s l ⟨p, hp'⟩ hi

theorem runs_levelV (k : ℕ) {w : ℕ} (hw : w = 2 ^ (k + 1)) (N n : ℕ) (hn : w + w = n) (hN : 2 ≤ N) (h : N * n = 32)
    (x : FVec Ideal (VS 32) .f32) (s : Fin 8) (l : Fin 128) (f : ℕ → EReal) (hx : Runs w x s l f) :
    Runs n (levelV k hw N n hn hN h x) s l f := fun p hp => by
  have hn0 : 0 < n := by rw [← hn, hw]; have := Nat.two_pow_pos (k + 1); omega
  have hp' : p < N := by
    by_contra hc
    have : (N + 1) * n ≤ (p + 1) * n := Nat.mul_le_mul_right n (by omega)
    rw [Nat.add_mul, h] at this
    omega
  have hb : n * p + w + w ≤ 32 := by rw [Nat.mul_comm]; rw [Nat.add_mul] at hp; omega
  have hm := col_mergeW k hw hn x s l f hx p (n * p) rfl hb
  refine hm.congr (fun i hi => ?_) fun t => by rw [Nat.mul_comm p n]
  exact col_concatN (fun p : Fin N => mergeW k hw hn x (n * p.val) _) _ h s l ⟨p, hp'⟩ hi

/-- A sorted piece: each column in descending order. -/
theorem isTop_sortV (x : FVec Ideal (VS 32) .f32) (s : Fin 8) (l : Fin 128) :
    IsTop 32 (col (sortV x) s l) (cnt 32 (col x s l)) := by
  have h1 : Runs 1 x s l (col x s l) := fun p _ => isTop_one _
  have h2 := runs_level0V x s l _ h1
  have h4 := runs_levelV 0 (w := 2) rfl 8 4 rfl (by decide) rfl _ s l _ h2
  have h8 := runs_levelV 1 (w := 4) rfl 4 8 rfl (by decide) rfl _ s l _ h4
  have h16 := runs_levelV 2 (w := 8) rfl 2 16 rfl (by decide) rfl _ s l _ h8
  have h32 := col_mergeW 3 (w := 16) (n := 32) rfl rfl _ s l _ h16 0 0 rfl (by decide)
  exact h32.congr (fun i _ => rfl) fun t => by simp only [Nat.zero_add]

/-- A list that takes in a sorted piece: each column holds the largest entries of both. -/
theorem isTop_takeV (best : FVec Ideal (VS 128) .f32) (v : FVec Ideal (VS 32) .f32) (s : Fin 8) (l : Fin 128)
    (ca cb : EReal → ℕ) (ha : IsTop 128 (col best s l) ca) (hb : IsTop 32 (col v s l) cb) (hcb : ∀ t, cb t ≤ 32) :
    IsTop 128 (col (takeV best v) s l) (fun t => ca t + cb t) := by
  unfold takeV
  rw [col_mergeV]
  refine IsTop.mergeTop (k := 7) (w := 32) (by decide) ha hb (Or.inr hcb) ?_ ?_
  · intro i hi
    have hi' : i < 96 := by simpa using hi
    rw [col_pairV_left _ _ _ _ _ hi', col_sliceV _ _ _ _ hi', Nat.zero_add]
  · intro i hi hi'
    obtain ⟨j, rfl⟩ : ∃ j, i = 96 + j := ⟨i - 96, by simp at hi; omega⟩
    have hj : j < 32 := by simp at hi'; omega
    rw [col_pairV_right _ _ _ _ _ hj, col_max, col_sliceV _ _ _ _ hj, col_flipV _ _ _ _ hj]
    congr 2
    simp
    omega

end Cert.Proof
-- ==== Proof.Finish.lean ====
/- The last point: the eight columns of each list are folded into one, and its first hundred entries go out. -/
module

public import proofs.«01_k».proof.Proof.Point
public import proofs.«01_k».proof.Proof.Top
public import Idealize.ShloMosaic.Lib.KernelVsHost
public import Idealize.ShloMosaic.Lib.WritesUnit

@[expose] public section

set_option maxRecDepth 100000
set_option maxHeartbeats 0

noncomputable section

namespace Cert.Proof

open Idealize.ShloMosaic Idealize.ShloMosaic.ValueIdx Cert.KernelIdeal Cert.KernelIdeal.Gen

section
variable {F : FTy → Type} [FloatOps F]

/-- Each column of the lists merged with the column `sh` places before it. -/
def foldV (sh : BitVec 32) (x : FVec F (VS 128) .f32) : FVec F (VS 128) .f32 :=
  mergeV 7 (by decide) (maximumf x (flipV (by decide) (dynamicRotate 1 sh none x rotates_S128x8x128_d1)))

/-- The columns folded at distances 4, 2 and 1. -/
def finishV (x : FVec F (VS 128) .f32) : FVec F (VS 128) .f32 := foldV 1#32 (foldV 2#32 (foldV 4#32 x))

variable (i : grid0.Coords) (arg6 : Memref sig .tc .vmem S4x128x8x128 .f32) (k0_h2 : k0_cond2 i = 1#1)
  (X_arg6 : arg6.view.ty.Contents (Elt F)) (k : Fin k0_t2_loop.trips)

/-- The larger of the two halves of each block. -/
def halfMax (A d : ℕ) (y : FVec F (WS A d) .f32) : FVec F (QS A d) .f32 :=
  maximumf (F := F) (φ := .f32)
    (shapeCast (QS A d) (extractStridedSlice (HS A d) ![0, 0, 0, 0, 0] y (WS_slices_lo A d)) (HS_casts_QS A d))
    (shapeCast (QS A d) (extractStridedSlice (HS A d) ![0, 1, 0, 0, 0] y (WS_slices_hi A d)) (HS_casts_QS A d))

/-- The smaller. -/
def halfMin (A d : ℕ) (y : FVec F (WS A d) .f32) : FVec F (QS A d) .f32 :=
  minimumf (F := F) (φ := .f32)
    (shapeCast (QS A d) (extractStridedSlice (HS A d) ![0, 0, 0, 0, 0] y (WS_slices_lo A d)) (HS_casts_QS A d))
    (shapeCast (QS A d) (extractStridedSlice (HS A d) ![0, 1, 0, 0, 0] y (WS_slices_hi A d)) (HS_casts_QS A d))

/-- The two, put back as the halves of each block. -/
def joinV {n : ℕ} (A d : ℕ) (h : n = A * 2 * d) (a b : FVec F (QS A d) .f32) : FVec F (VS n) .f32 :=
  shapeCast (VS n) (concatenate (WS A d) 1 [⟨HS A d, shapeCast (HS A d) a (QS_casts_HS A d)⟩,
    ⟨HS A d, shapeCast (HS A d) b (QS_casts_HS A d)⟩] (HS_concatenates A d)) (WS_casts_VS h)

theorem stageV_eq_join {n : ℕ} (A d : ℕ) (h : n = A * 2 * d) (x : FVec F (VS n) .f32) :
    stageV A d h x = joinV A d h (halfMax A d (shapeCast (WS A d) x (VS_casts_WS h)))
      (halfMin A d (shapeCast (WS A d) x (VS_casts_WS h))) := rfl

theorem mergeV_seven (x : FVec F (VS 128) .f32) : mergeV 7 (by decide) x =
    stageV 64 1 rfl (stageV 32 2 rfl (stageV 16 4 rfl (stageV 8 8 rfl (stageV 4 16 rfl
      (stageV 2 32 rfl (stageV 1 64 rfl x)))))) := id rfl

theorem mid_a (a b : FVec F (QS 4 16) .f32) : k0_pay3033 a b =
    shapeCast (WS 64 1) (stageV 32 2 rfl (stageV 16 4 rfl (stageV 8 8 rfl (joinV 4 16 rfl a b))) :
      FVec F (VS 128) .f32) (by decide) := id rfl

theorem fold4_a : k0_pay3030 (trip_k0_t2.sl.v10 i arg6 k0_h2 X_arg6 k) (trip_k0_t2.sl.v11 i arg6 k0_h2 X_arg6 k) (trip_k0_t2.sl.v12 i arg6 k0_h2 X_arg6 k) (trip_k0_t2.sl.v13 i arg6 k0_h2 X_arg6 k) (trip_k0_t2.sl.v14 i arg6 k0_h2 X_arg6 k) (trip_k0_t2.sl.v15 i arg6 k0_h2 X_arg6 k) (trip_k0_t2.sl.v16 i arg6 k0_h2 X_arg6 k) (trip_k0_t2.sl.v17 i arg6 k0_h2 X_arg6 k) (trip_k0_t2.sl.v18 i arg6 k0_h2 X_arg6 k) (trip_k0_t2.sl.v19 i arg6 k0_h2 X_arg6 k) (trip_k0_t2.sl.v20 i arg6 k0_h2 X_arg6 k) (trip_k0_t2.sl.v21 i arg6 k0_h2 X_arg6 k) (trip_k0_t2.sl.v22 i arg6 k0_h2 X_arg6 k) (trip_k0_t2.sl.v23 i arg6 k0_h2 X_arg6 k) (trip_k0_t2.sl.v24 i arg6 k0_h2 X_arg6 k) (trip_k0_t2.sl.v25 i arg6 k0_h2 X_arg6 k) (trip_k0_t2.sl.v26 i arg6 k0_h2 X_arg6 k) (trip_k0_t2.sl.v27 i arg6 k0_h2 X_arg6 k) (trip_k0_t2.sl.v28 i arg6 k0_h2 X_arg6 k) (trip_k0_t2.sl.v29 i arg6 k0_h2 X_arg6 k) (trip_k0_t2.sl.v30 i arg6 k0_h2 X_arg6 k) (trip_k0_t2.sl.v31 i arg6 k0_h2 X_arg6 k) (trip_k0_t2.sl.v32 i arg6 k0_h2 X_arg6 k) (trip_k0_t2.sl.v33 i arg6 k0_h2 X_arg6 k) (trip_k0_t2.sl.v34 i arg6 k0_h2 X_arg6 k) (trip_k0_t2.sl.v35 i arg6 k0_h2 X_arg6 k) (trip_k0_t2.sl.v36 i arg6 k0_h2 X_arg6 k) (trip_k0_t2.sl.v37 i arg6 k0_h2 X_arg6 k) (trip_k0_t2.sl.v38 i arg6 k0_h2 X_arg6 k) (trip_k0_t2.sl.v39 i arg6 k0_h2 X_arg6 k) (trip_k0_t2.sl.v40 i arg6 k0_h2 X_arg6 k) (trip_k0_t2.sl.v41 i arg6 k0_h2 X_arg6 k) (trip_k0_t2.sl.v42 i arg6 k0_h2 X_arg6 k) (trip_k0_t2.sl.v43 i arg6 k0_h2 X_arg6 k) (trip_k0_t2.sl.v44 i arg6 k0_h2 X_arg6 k) (trip_k0_t2.sl.v45 i arg6 k0_h2 X_arg6 k) (trip_k0_t2.sl.v46 i arg6 k0_h2 X_arg6 k) (trip_k0_t2.sl.v47 i arg6 k0_h2 X_arg6 k) (trip_k0_t2.sl.v48 i arg6 k0_h2 X_arg6 k) (trip_k0_t2.sl.v49 i arg6 k0_h2 X_arg6 k) (trip_k0_t2.sl.v50 i arg6 k0_h2 X_arg6 k) (trip_k0_t2.sl.v51 i arg6 k0_h2 X_arg6 k) (trip_k0_t2.sl.v52 i arg6 k0_h2 X_arg6 k) (trip_k0_t2.sl.v53 i arg6 k0_h2 X_arg6 k) (trip_k0_t2.sl.v54 i arg6 k0_h2 X_arg6 k) (trip_k0_t2.sl.v55 i arg6 k0_h2 X_arg6 k) (trip_k0_t2.sl.v56 i arg6 k0_h2 X_arg6 k) (trip_k0_t2.sl.v57 i arg6 k0_h2 X_arg6 k) (trip_k0_t2.sl.v58 i arg6 k0_h2 X_arg6 k) (trip_k0_t2.sl.v59 i arg6 k0_h2 X_arg6 k) (trip_k0_t2.sl.v60 i arg6 k0_h2 X_arg6 k) (trip_k0_t2.sl.v61 i arg6 k0_h2 X_arg6 k) (trip_k0_t2.sl.v62 i arg6 k0_h2 X_arg6 k) (trip_k0_t2.sl.v63 i arg6 k0_h2 X_arg6 k) (trip_k0_t2.sl.v64 i arg6 k0_h2 X_arg6 k) (trip_k0_t2.sl.v65 i arg6 k0_h2 X_arg6 k) (trip_k0_t2.sl.v66 i arg6 k0_h2 X_arg6 k) (trip_k0_t2.sl.v67 i arg6 k0_h2 X_arg6 k) (trip_k0_t2.sl.v68 i arg6 k0_h2 X_arg6 k) (trip_k0_t2.sl.v69 i arg6 k0_h2 X_arg6 k) (trip_k0_t2.sl.v70 i arg6 k0_h2 X_arg6 k) (trip_k0_t2.sl.v71 i arg6 k0_h2 X_arg6 k) (trip_k0_t2.sl.v72 i arg6 k0_h2 X_arg6 k) (trip_k0_t2.sl.v73 i arg6 k0_h2 X_arg6 k) (trip_k0_t2.sl.v74 i arg6 k0_h2 X_arg6 k) (trip_k0_t2.sl.v75 i arg6 k0_h2 X_arg6 k) (trip_k0_t2.sl.v76 i arg6 k0_h2 X_arg6 k) (trip_k0_t2.sl.v77 i arg6 k0_h2 X_arg6 k) (trip_k0_t2.sl.v78 i arg6 k0_h2 X_arg6 k) (trip_k0_t2.sl.v79 i arg6 k0_h2 X_arg6 k) (trip_k0_t2.sl.v80 i arg6 k0_h2 X_arg6 k) (trip_k0_t2.sl.v81 i arg6 k0_h2 X_arg6 k) (trip_k0_t2.sl.v82 i arg6 k0_h2 X_arg6 k) (trip_k0_t2.sl.v83 i arg6 k0_h2 X_arg6 k) (trip_k0_t2.sl.v84 i arg6 k0_h2 X_arg6 k) (trip_k0_t2.sl.v85 i arg6 k0_h2 X_arg6 k) (trip_k0_t2.sl.v86 i arg6 k0_h2 X_arg6 k) (trip_k0_t2.sl.v87 i arg6 k0_h2 X_arg6 k) (trip_k0_t2.sl.v88 i arg6 k0_h2 X_arg6 k) (trip_k0_t2.sl.v89 i arg6 k0_h2 X_arg6 k) (trip_k0_t2.sl.v90 i arg6 k0_h2 X_arg6 k) (trip_k0_t2.sl.v91 i arg6 k0_h2 X_arg6 k) (trip_k0_t2.sl.v92 i arg6 k0_h2 X_arg6 k) (trip_k0_t2.sl.v93 i arg6 k0_h2 X_arg6 k) (trip_k0_t2.sl.v94 i arg6 k0_h2 X_arg6 k) (trip_k0_t2.sl.v95 i arg6 k0_h2 X_arg6 k) (trip_k0_t2.sl.v96 i arg6 k0_h2 X_arg6 k) (trip_k0_t2.sl.v97 i arg6 k0_h2 X_arg6 k) (trip_k0_t2.sl.v98 i arg6 k0_h2 X_arg6 k) (trip_k0_t2.sl.v99 i arg6 k0_h2 X_arg6 k) (trip_k0_t2.sl.v100 i arg6 k0_h2 X_arg6 k) (trip_k0_t2.sl.v101 i arg6 k0_h2 X_arg6 k) (trip_k0_t2.sl.v102 i arg6 k0_h2 X_arg6 k) (trip_k0_t2.sl.v103 i arg6 k0_h2 X_arg6 k) (trip_k0_t2.sl.v104 i arg6 k0_h2 X_arg6 k) (trip_k0_t2.sl.v105 i arg6 k0_h2 X_arg6 k) (trip_k0_t2.sl.v106 i arg6 k0_h2 X_arg6 k) (trip_k0_t2.sl.v107 i arg6 k0_h2 X_arg6 k) (trip_k0_t2.sl.v108 i arg6 k0_h2 X_arg6 k) (trip_k0_t2.sl.v109 i arg6 k0_h2 X_arg6 k) (trip_k0_t2.sl.v110 i arg6 k0_h2 X_arg6 k) (trip_k0_t2.sl.v111 i arg6 k0_h2 X_arg6 k) (trip_k0_t2.sl.v112 i arg6 k0_h2 X_arg6 k) (trip_k0_t2.sl.v113 i arg6 k0_h2 X_arg6 k) (trip_k0_t2.sl.v114 i arg6 k0_h2 X_arg6 k) (trip_k0_t2.sl.v115 i arg6 k0_h2 X_arg6 k) (trip_k0_t2.sl.v116 i arg6 k0_h2 X_arg6 k) (trip_k0_t2.sl.v117 i arg6 k0_h2 X_arg6 k) (trip_k0_t2.sl.v118 i arg6 k0_h2 X_arg6 k) (trip_k0_t2.sl.v119 i arg6 k0_h2 X_arg6 k) (trip_k0_t2.sl.v120 i arg6 k0_h2 X_arg6 k) (trip_k0_t2.sl.v121 i arg6 k0_h2 X_arg6 k) (trip_k0_t2.sl.v122 i arg6 k0_h2 X_arg6 k) =
    shapeCast (WS 4 16) (stageV 2 32 rfl (stageV 1 64 rfl (maximumf (trip_k0_t2.sl.v10 i arg6 k0_h2 X_arg6 k) (flipV (by decide) (trip_k0_t2.sl.v11 i arg6 k0_h2 X_arg6 k))))) (by decide) := id rfl

theorem fold4_b : (trip_k0_t2.sl.r i arg6 k0_h2 X_arg6 k) = halfMax 4 16 (k0_pay3030 (trip_k0_t2.sl.v10 i arg6 k0_h2 X_arg6 k) (trip_k0_t2.sl.v11 i arg6 k0_h2 X_arg6 k) (trip_k0_t2.sl.v12 i arg6 k0_h2 X_arg6 k) (trip_k0_t2.sl.v13 i arg6 k0_h2 X_arg6 k) (trip_k0_t2.sl.v14 i arg6 k0_h2 X_arg6 k) (trip_k0_t2.sl.v15 i arg6 k0_h2 X_arg6 k) (trip_k0_t2.sl.v16 i arg6 k0_h2 X_arg6 k) (trip_k0_t2.sl.v17 i arg6 k0_h2 X_arg6 k) (trip_k0_t2.sl.v18 i arg6 k0_h2 X_arg6 k) (trip_k0_t2.sl.v19 i arg6 k0_h2 X_arg6 k) (trip_k0_t2.sl.v20 i arg6 k0_h2 X_arg6 k) (trip_k0_t2.sl.v21 i arg6 k0_h2 X_arg6 k) (trip_k0_t2.sl.v22 i arg6 k0_h2 X_arg6 k) (trip_k0_t2.sl.v23 i arg6 k0_h2 X_arg6 k) (trip_k0_t2.sl.v24 i arg6 k0_h2 X_arg6 k) (trip_k0_t2.sl.v25 i arg6 k0_h2 X_arg6 k) (trip_k0_t2.sl.v26 i arg6 k0_h2 X_arg6 k) (trip_k0_t2.sl.v27 i arg6 k0_h2 X_arg6 k) (trip_k0_t2.sl.v28 i arg6 k0_h2 X_arg6 k) (trip_k0_t2.sl.v29 i arg6 k0_h2 X_arg6 k) (trip_k0_t2.sl.v30 i arg6 k0_h2 X_arg6 k) (trip_k0_t2.sl.v31 i arg6 k0_h2 X_arg6 k) (trip_k0_t2.sl.v32 i arg6 k0_h2 X_arg6 k) (trip_k0_t2.sl.v33 i arg6 k0_h2 X_arg6 k) (trip_k0_t2.sl.v34 i arg6 k0_h2 X_arg6 k) (trip_k0_t2.sl.v35 i arg6 k0_h2 X_arg6 k) (trip_k0_t2.sl.v36 i arg6 k0_h2 X_arg6 k) (trip_k0_t2.sl.v37 i arg6 k0_h2 X_arg6 k) (trip_k0_t2.sl.v38 i arg6 k0_h2 X_arg6 k) (trip_k0_t2.sl.v39 i arg6 k0_h2 X_arg6 k) (trip_k0_t2.sl.v40 i arg6 k0_h2 X_arg6 k) (trip_k0_t2.sl.v41 i arg6 k0_h2 X_arg6 k) (trip_k0_t2.sl.v42 i arg6 k0_h2 X_arg6 k) (trip_k0_t2.sl.v43 i arg6 k0_h2 X_arg6 k) (trip_k0_t2.sl.v44 i arg6 k0_h2 X_arg6 k) (trip_k0_t2.sl.v45 i arg6 k0_h2 X_arg6 k) (trip_k0_t2.sl.v46 i arg6 k0_h2 X_arg6 k) (trip_k0_t2.sl.v47 i arg6 k0_h2 X_arg6 k) (trip_k0_t2.sl.v48 i arg6 k0_h2 X_arg6 k) (trip_k0_t2.sl.v49 i arg6 k0_h2 X_arg6 k) (trip_k0_t2.sl.v50 i arg6 k0_h2 X_arg6 k) (trip_k0_t2.sl.v51 i arg6 k0_h2 X_arg6 k) (trip_k0_t2.sl.v52 i arg6 k0_h2 X_arg6 k) (trip_k0_t2.sl.v53 i arg6 k0_h2 X_arg6 k) (trip_k0_t2.sl.v54 i arg6 k0_h2 X_arg6 k) (trip_k0_t2.sl.v55 i arg6 k0_h2 X_arg6 k) (trip_k0_t2.sl.v56 i arg6 k0_h2 X_arg6 k) (trip_k0_t2.sl.v57 i arg6 k0_h2 X_arg6 k) (trip_k0_t2.sl.v58 i arg6 k0_h2 X_arg6 k) (trip_k0_t2.sl.v59 i arg6 k0_h2 X_arg6 k) (trip_k0_t2.sl.v60 i arg6 k0_h2 X_arg6 k) (trip_k0_t2.sl.v61 i arg6 k0_h2 X_arg6 k) (trip_k0_t2.sl.v62 i arg6 k0_h2 X_arg6 k) (trip_k0_t2.sl.v63 i arg6 k0_h2 X_arg6 k) (trip_k0_t2.sl.v64 i arg6 k0_h2 X_arg6 k) (trip_k0_t2.sl.v65 i arg6 k0_h2 X_arg6 k) (trip_k0_t2.sl.v66 i arg6 k0_h2 X_arg6 k) (trip_k0_t2.sl.v67 i arg6 k0_h2 X_arg6 k) (trip_k0_t2.sl.v68 i arg6 k0_h2 X_arg6 k) (trip_k0_t2.sl.v69 i arg6 k0_h2 X_arg6 k) (trip_k0_t2.sl.v70 i arg6 k0_h2 X_arg6 k) (trip_k0_t2.sl.v71 i arg6 k0_h2 X_arg6 k) (trip_k0_t2.sl.v72 i arg6 k0_h2 X_arg6 k) (trip_k0_t2.sl.v73 i arg6 k0_h2 X_arg6 k) (trip_k0_t2.sl.v74 i arg6 k0_h2 X_arg6 k) (trip_k0_t2.sl.v75 i arg6 k0_h2 X_arg6 k) (trip_k0_t2.sl.v76 i arg6 k0_h2 X_arg6 k) (trip_k0_t2.sl.v77 i arg6 k0_h2 X_arg6 k) (trip_k0_t2.sl.v78 i arg6 k0_h2 X_arg6 k) (trip_k0_t2.sl.v79 i arg6 k0_h2 X_arg6 k) (trip_k0_t2.sl.v80 i arg6 k0_h2 X_arg6 k) (trip_k0_t2.sl.v81 i arg6 k0_h2 X_arg6 k) (trip_k0_t2.sl.v82 i arg6 k0_h2 X_arg6 k) (trip_k0_t2.sl.v83 i arg6 k0_h2 X_arg6 k) (trip_k0_t2.sl.v84 i arg6 k0_h2 X_arg6 k) (trip_k0_t2.sl.v85 i arg6 k0_h2 X_arg6 k) (trip_k0_t2.sl.v86 i arg6 k0_h2 X_arg6 k) (trip_k0_t2.sl.v87 i arg6 k0_h2 X_arg6 k) (trip_k0_t2.sl.v88 i arg6 k0_h2 X_arg6 k) (trip_k0_t2.sl.v89 i arg6 k0_h2 X_arg6 k) (trip_k0_t2.sl.v90 i arg6 k0_h2 X_arg6 k) (trip_k0_t2.sl.v91 i arg6 k0_h2 X_arg6 k) (trip_k0_t2.sl.v92 i arg6 k0_h2 X_arg6 k) (trip_k0_t2.sl.v93 i arg6 k0_h2 X_arg6 k) (trip_k0_t2.sl.v94 i arg6 k0_h2 X_arg6 k) (trip_k0_t2.sl.v95 i arg6 k0_h2 X_arg6 k) (trip_k0_t2.sl.v96 i arg6 k0_h2 X_arg6 k) (trip_k0_t2.sl.v97 i arg6 k0_h2 X_arg6 k) (trip_k0_t2.sl.v98 i arg6 k0_h2 X_arg6 k) (trip_k0_t2.sl.v99 i arg6 k0_h2 X_arg6 k) (trip_k0_t2.sl.v100 i arg6 k0_h2 X_arg6 k) (trip_k0_t2.sl.v101 i arg6 k0_h2 X_arg6 k) (trip_k0_t2.sl.v102 i arg6 k0_h2 X_arg6 k) (trip_k0_t2.sl.v103 i arg6 k0_h2 X_arg6 k) (trip_k0_t2.sl.v104 i arg6 k0_h2 X_arg6 k) (trip_k0_t2.sl.v105 i arg6 k0_h2 X_arg6 k) (trip_k0_t2.sl.v106 i arg6 k0_h2 X_arg6 k) (trip_k0_t2.sl.v107 i arg6 k0_h2 X_arg6 k) (trip_k0_t2.sl.v108 i arg6 k0_h2 X_arg6 k) (trip_k0_t2.sl.v109 i arg6 k0_h2 X_arg6 k) (trip_k0_t2.sl.v110 i arg6 k0_h2 X_arg6 k) (trip_k0_t2.sl.v111 i arg6 k0_h2 X_arg6 k) (trip_k0_t2.sl.v112 i arg6 k0_h2 X_arg6 k) (trip_k0_t2.sl.v113 i arg6 k0_h2 X_arg6 k) (trip_k0_t2.sl.v114 i arg6 k0_h2 X_arg6 k) (trip_k0_t2.sl.v115 i arg6 k0_h2 X_arg6 k) (trip_k0_t2.sl.v116 i arg6 k0_h2 X_arg6 k) (trip_k0_t2.sl.v117 i arg6 k0_h2 X_arg6 k) (trip_k0_t2.sl.v118 i arg6 k0_h2 X_arg6 k) (trip_k0_t2.sl.v119 i arg6 k0_h2 X_arg6 k) (trip_k0_t2.sl.v120 i arg6 k0_h2 X_arg6 k) (trip_k0_t2.sl.v121 i arg6 k0_h2 X_arg6 k) (trip_k0_t2.sl.v122 i arg6 k0_h2 X_arg6 k)) := id rfl

theorem fold4_c : (trip_k0_t2.sl.r_1 i arg6 k0_h2 X_arg6 k) = halfMin 4 16 (k0_pay3030 (trip_k0_t2.sl.v10 i arg6 k0_h2 X_arg6 k) (trip_k0_t2.sl.v11 i arg6 k0_h2 X_arg6 k) (trip_k0_t2.sl.v12 i arg6 k0_h2 X_arg6 k) (trip_k0_t2.sl.v13 i arg6 k0_h2 X_arg6 k) (trip_k0_t2.sl.v14 i arg6 k0_h2 X_arg6 k) (trip_k0_t2.sl.v15 i arg6 k0_h2 X_arg6 k) (trip_k0_t2.sl.v16 i arg6 k0_h2 X_arg6 k) (trip_k0_t2.sl.v17 i arg6 k0_h2 X_arg6 k) (trip_k0_t2.sl.v18 i arg6 k0_h2 X_arg6 k) (trip_k0_t2.sl.v19 i arg6 k0_h2 X_arg6 k) (trip_k0_t2.sl.v20 i arg6 k0_h2 X_arg6 k) (trip_k0_t2.sl.v21 i arg6 k0_h2 X_arg6 k) (trip_k0_t2.sl.v22 i arg6 k0_h2 X_arg6 k) (trip_k0_t2.sl.v23 i arg6 k0_h2 X_arg6 k) (trip_k0_t2.sl.v24 i arg6 k0_h2 X_arg6 k) (trip_k0_t2.sl.v25 i arg6 k0_h2 X_arg6 k) (trip_k0_t2.sl.v26 i arg6 k0_h2 X_arg6 k) (trip_k0_t2.sl.v27 i arg6 k0_h2 X_arg6 k) (trip_k0_t2.sl.v28 i arg6 k0_h2 X_arg6 k) (trip_k0_t2.sl.v29 i arg6 k0_h2 X_arg6 k) (trip_k0_t2.sl.v30 i arg6 k0_h2 X_arg6 k) (trip_k0_t2.sl.v31 i arg6 k0_h2 X_arg6 k) (trip_k0_t2.sl.v32 i arg6 k0_h2 X_arg6 k) (trip_k0_t2.sl.v33 i arg6 k0_h2 X_arg6 k) (trip_k0_t2.sl.v34 i arg6 k0_h2 X_arg6 k) (trip_k0_t2.sl.v35 i arg6 k0_h2 X_arg6 k) (trip_k0_t2.sl.v36 i arg6 k0_h2 X_arg6 k) (trip_k0_t2.sl.v37 i arg6 k0_h2 X_arg6 k) (trip_k0_t2.sl.v38 i arg6 k0_h2 X_arg6 k) (trip_k0_t2.sl.v39 i arg6 k0_h2 X_arg6 k) (trip_k0_t2.sl.v40 i arg6 k0_h2 X_arg6 k) (trip_k0_t2.sl.v41 i arg6 k0_h2 X_arg6 k) (trip_k0_t2.sl.v42 i arg6 k0_h2 X_arg6 k) (trip_k0_t2.sl.v43 i arg6 k0_h2 X_arg6 k) (trip_k0_t2.sl.v44 i arg6 k0_h2 X_arg6 k) (trip_k0_t2.sl.v45 i arg6 k0_h2 X_arg6 k) (trip_k0_t2.sl.v46 i arg6 k0_h2 X_arg6 k) (trip_k0_t2.sl.v47 i arg6 k0_h2 X_arg6 k) (trip_k0_t2.sl.v48 i arg6 k0_h2 X_arg6 k) (trip_k0_t2.sl.v49 i arg6 k0_h2 X_arg6 k) (trip_k0_t2.sl.v50 i arg6 k0_h2 X_arg6 k) (trip_k0_t2.sl.v51 i arg6 k0_h2 X_arg6 k) (trip_k0_t2.sl.v52 i arg6 k0_h2 X_arg6 k) (trip_k0_t2.sl.v53 i arg6 k0_h2 X_arg6 k) (trip_k0_t2.sl.v54 i arg6 k0_h2 X_arg6 k) (trip_k0_t2.sl.v55 i arg6 k0_h2 X_arg6 k) (trip_k0_t2.sl.v56 i arg6 k0_h2 X_arg6 k) (trip_k0_t2.sl.v57 i arg6 k0_h2 X_arg6 k) (trip_k0_t2.sl.v58 i arg6 k0_h2 X_arg6 k) (trip_k0_t2.sl.v59 i arg6 k0_h2 X_arg6 k) (trip_k0_t2.sl.v60 i arg6 k0_h2 X_arg6 k) (trip_k0_t2.sl.v61 i arg6 k0_h2 X_arg6 k) (trip_k0_t2.sl.v62 i arg6 k0_h2 X_arg6 k) (trip_k0_t2.sl.v63 i arg6 k0_h2 X_arg6 k) (trip_k0_t2.sl.v64 i arg6 k0_h2 X_arg6 k) (trip_k0_t2.sl.v65 i arg6 k0_h2 X_arg6 k) (trip_k0_t2.sl.v66 i arg6 k0_h2 X_arg6 k) (trip_k0_t2.sl.v67 i arg6 k0_h2 X_arg6 k) (trip_k0_t2.sl.v68 i arg6 k0_h2 X_arg6 k) (trip_k0_t2.sl.v69 i arg6 k0_h2 X_arg6 k) (trip_k0_t2.sl.v70 i arg6 k0_h2 X_arg6 k) (trip_k0_t2.sl.v71 i arg6 k0_h2 X_arg6 k) (trip_k0_t2.sl.v72 i arg6 k0_h2 X_arg6 k) (trip_k0_t2.sl.v73 i arg6 k0_h2 X_arg6 k) (trip_k0_t2.sl.v74 i arg6 k0_h2 X_arg6 k) (trip_k0_t2.sl.v75 i arg6 k0_h2 X_arg6 k) (trip_k0_t2.sl.v76 i arg6 k0_h2 X_arg6 k) (trip_k0_t2.sl.v77 i arg6 k0_h2 X_arg6 k) (trip_k0_t2.sl.v78 i arg6 k0_h2 X_arg6 k) (trip_k0_t2.sl.v79 i arg6 k0_h2 X_arg6 k) (trip_k0_t2.sl.v80 i arg6 k0_h2 X_arg6 k) (trip_k0_t2.sl.v81 i arg6 k0_h2 X_arg6 k) (trip_k0_t2.sl.v82 i arg6 k0_h2 X_arg6 k) (trip_k0_t2.sl.v83 i arg6 k0_h2 X_arg6 k) (trip_k0_t2.sl.v84 i arg6 k0_h2 X_arg6 k) (trip_k0_t2.sl.v85 i arg6 k0_h2 X_arg6 k) (trip_k0_t2.sl.v86 i arg6 k0_h2 X_arg6 k) (trip_k0_t2.sl.v87 i arg6 k0_h2 X_arg6 k) (trip_k0_t2.sl.v88 i arg6 k0_h2 X_arg6 k) (trip_k0_t2.sl.v89 i arg6 k0_h2 X_arg6 k) (trip_k0_t2.sl.v90 i arg6 k0_h2 X_arg6 k) (trip_k0_t2.sl.v91 i arg6 k0_h2 X_arg6 k) (trip_k0_t2.sl.v92 i arg6 k0_h2 X_arg6 k) (trip_k0_t2.sl.v93 i arg6 k0_h2 X_arg6 k) (trip_k0_t2.sl.v94 i arg6 k0_h2 X_arg6 k) (trip_k0_t2.sl.v95 i arg6 k0_h2 X_arg6 k) (trip_k0_t2.sl.v96 i arg6 k0_h2 X_arg6 k) (trip_k0_t2.sl.v97 i arg6 k0_h2 X_arg6 k) (trip_k0_t2.sl.v98 i arg6 k0_h2 X_arg6 k) (trip_k0_t2.sl.v99 i arg6 k0_h2 X_arg6 k) (trip_k0_t2.sl.v100 i arg6 k0_h2 X_arg6 k) (trip_k0_t2.sl.v101 i arg6 k0_h2 X_arg6 k) (trip_k0_t2.sl.v102 i arg6 k0_h2 X_arg6 k) (trip_k0_t2.sl.v103 i arg6 k0_h2 X_arg6 k) (trip_k0_t2.sl.v104 i arg6 k0_h2 X_arg6 k) (trip_k0_t2.sl.v105 i arg6 k0_h2 X_arg6 k) (trip_k0_t2.sl.v106 i arg6 k0_h2 X_arg6 k) (trip_k0_t2.sl.v107 i arg6 k0_h2 X_arg6 k) (trip_k0_t2.sl.v108 i arg6 k0_h2 X_arg6 k) (trip_k0_t2.sl.v109 i arg6 k0_h2 X_arg6 k) (trip_k0_t2.sl.v110 i arg6 k0_h2 X_arg6 k) (trip_k0_t2.sl.v111 i arg6 k0_h2 X_arg6 k) (trip_k0_t2.sl.v112 i arg6 k0_h2 X_arg6 k) (trip_k0_t2.sl.v113 i arg6 k0_h2 X_arg6 k) (trip_k0_t2.sl.v114 i arg6 k0_h2 X_arg6 k) (trip_k0_t2.sl.v115 i arg6 k0_h2 X_arg6 k) (trip_k0_t2.sl.v116 i arg6 k0_h2 X_arg6 k) (trip_k0_t2.sl.v117 i arg6 k0_h2 X_arg6 k) (trip_k0_t2.sl.v118 i arg6 k0_h2 X_arg6 k) (trip_k0_t2.sl.v119 i arg6 k0_h2 X_arg6 k) (trip_k0_t2.sl.v120 i arg6 k0_h2 X_arg6 k) (trip_k0_t2.sl.v121 i arg6 k0_h2 X_arg6 k) (trip_k0_t2.sl.v122 i arg6 k0_h2 X_arg6 k)) := id rfl

theorem fold4_d : (trip_k0_t2.sl.r_2 i arg6 k0_h2 X_arg6 k) = halfMax 64 1 (k0_pay3033 (trip_k0_t2.sl.r i arg6 k0_h2 X_arg6 k) (trip_k0_t2.sl.r_1 i arg6 k0_h2 X_arg6 k)) := id rfl

theorem fold4_e : (trip_k0_t2.sl.r_3 i arg6 k0_h2 X_arg6 k) = halfMin 64 1 (k0_pay3033 (trip_k0_t2.sl.r i arg6 k0_h2 X_arg6 k) (trip_k0_t2.sl.r_1 i arg6 k0_h2 X_arg6 k)) := id rfl

theorem fold4_f : (trip_k0_t2.sl.v246 i arg6 k0_h2 X_arg6 k) = joinV 64 1 rfl (trip_k0_t2.sl.r_2 i arg6 k0_h2 X_arg6 k) (trip_k0_t2.sl.r_3 i arg6 k0_h2 X_arg6 k) := id rfl

theorem fold4 : (trip_k0_t2.sl.v246 i arg6 k0_h2 X_arg6 k) = foldV 4#32 (trip_k0_t2.sl.v10 i arg6 k0_h2 X_arg6 k) := by
  rw [fold4_f, fold4_d, fold4_e, mid_a, fold4_b, fold4_c, fold4_a, foldV, mergeV_seven]
  rw [stageV_eq_join 4 16, stageV_eq_join 64 1]
  rfl

theorem fold2_a : shapeCast (VS 128) (trip_k0_t2.sl.r_4 i arg6 k0_h2 X_arg6 k) (by decide) = (stageV 4 16 rfl (stageV 2 32 rfl (stageV 1 64 rfl (maximumf (trip_k0_t2.sl.v246 i arg6 k0_h2 X_arg6 k) (flipV (by decide) (trip_k0_t2.sl.v247 i arg6 k0_h2 X_arg6 k)))))) := id rfl

theorem last_a (y : FVec F (WS 4 16) .f32) : shapeCast (VS 128) (k0_pay3153 y) (by decide) =
    stageV 64 1 rfl (stageV 32 2 rfl (stageV 16 4 rfl (stageV 8 8 rfl (shapeCast (VS 128) y (by decide))))) := id rfl

theorem fold2 : (trip_k0_t2.sl.v482 i arg6 k0_h2 X_arg6 k) = foldV 2#32 (trip_k0_t2.sl.v246 i arg6 k0_h2 X_arg6 k) := by
  have h : (trip_k0_t2.sl.v482 i arg6 k0_h2 X_arg6 k) = shapeCast (VS 128) (k0_pay3153 (trip_k0_t2.sl.r_4 i arg6 k0_h2 X_arg6 k)) (by decide) := id rfl
  rw [h, last_a, fold2_a, foldV, mergeV_seven]
  rfl

theorem last_b (x : FVec F (VS 128) .f32) : k0_pay3275 (shapeCast (WS 8 8) x (by decide))
      (extractStridedSlice (HS 8 8) ![0, 0, 0, 0, 0] (shapeCast (WS 8 8) x (by decide)) (WS_slices_lo 8 8)) =
    stageV 64 1 rfl (stageV 32 2 rfl (stageV 16 4 rfl (stageV 8 8 rfl x))) := id rfl

theorem fold1_b : (trip_k0_t2.sl.r_6 i arg6 k0_h2 X_arg6 k) = shapeCast (WS 8 8) (stageV 4 16 rfl (stageV 2 32 rfl (stageV 1 64 rfl (maximumf (trip_k0_t2.sl.v482 i arg6 k0_h2 X_arg6 k) (flipV (by decide) (trip_k0_t2.sl.v483 i arg6 k0_h2 X_arg6 k)))))) (by decide) := id rfl

theorem fold1_c : (trip_k0_t2.sl.r_7 i arg6 k0_h2 X_arg6 k) = extractStridedSlice (HS 8 8) ![0, 0, 0, 0, 0] (trip_k0_t2.sl.r_6 i arg6 k0_h2 X_arg6 k) (WS_slices_lo 8 8) := id rfl

theorem fold1 : (trip_k0_t2.sl.r_8 i arg6 k0_h2 X_arg6 k) = foldV 1#32 (trip_k0_t2.sl.v482 i arg6 k0_h2 X_arg6 k) := by
  have h : (trip_k0_t2.sl.r_8 i arg6 k0_h2 X_arg6 k) = k0_pay3275 (trip_k0_t2.sl.r_6 i arg6 k0_h2 X_arg6 k) (trip_k0_t2.sl.r_7 i arg6 k0_h2 X_arg6 k) := id rfl
  rw [h, fold1_c, fold1_b, last_b, foldV, mergeV_seven]
  rfl

theorem list_load (off : Fin 4 → ℕ) (g : Fin 4) (h : off = ![g.val, 0, 0, 0])
    (inb : ∀ a, off a + S1x128x8x128.size a ≤ S4x128x8x128.size a) (x : FVec F S4x128x8x128 .f32)
    (hc : S1x128x8x128.ShapeCasts (VS 128)) :
    shapeCast (VS 128) (View.ld (Val := Elt F) (e' := .f32) x (Rect.unit (s := S4x128x8x128) off S1x128x8x128.size inb)) hc =
      shapeCast (VS 128) (listV x g) (by decide) := by
  subst h
  rfl

/-- What one trip of the last loop computes. -/
theorem finish_trip : trip_k0_t2.sl.r_8 (F := F) i arg6 k0_h2 X_arg6 k =
    finishV (shapeCast (VS 128) (listV (View.read (Elt F) arg6.view X_arg6) (⟨k.val, k.isLt⟩ : Fin 4)) (by decide)) := by
  rw [fold1, fold2, fold4]
  refine congrArg finishV ?_
  exact list_load _ ⟨k.val, k.isLt⟩ (Cert.KernelIdeal.Gen.k0_off3_eq k) _ _ _
end

/-! ### The pieces of the result -/

section
variable {F : FTy → Type} [FloatOps F]
variable (c : Dev nD) (i : grid0.Coords) (arg1 : Memref sig .tc .vmem S512x768 .bf16) (harg1 : arg1.IsWhole) (arg2 : Memref sig .tc .vmem S2048x768 .i8) (harg2 : arg2.IsWhole)
  (arg3 : Memref sig .tc .vmem S3840x128 .f32) (harg3 : arg3.IsWhole) (arg4 : Memref sig .tc .vmem S512x100 .f32) (harg4 : arg4.IsWhole)
  (arg5 : Memref sig .tc .vmem S768x512 .bf16) (harg5 : arg5.IsWhole) (arg6 : Memref sig .tc .vmem S4x128x8x128 .f32) (harg6 : arg6.IsWhole)

theorem pay4_apply (x : FVec F (VS 128) .f32) (l : Fin 128) (j : Fin 100) :
    k0_pay4 x (ix2 l j) = x (ix3 ⟨j.val, by omega⟩ 0 l) := by
  unfold k0_pay4
  rw [extractStridedSlice_apply _ _ _ _ (ix2 l ⟨j.val, by omega⟩ : S128x128.Idx) (by intro a; fin_cases a <;> simp)]
  rw [transpose_apply _ _ _ _ (ix2 ⟨j.val, by omega⟩ l : S128x128.Idx) (by intro a; fin_cases a <;> rfl)]
  rw [shapeCast_apply _ _ _ (ix3 ⟨j.val, by omega⟩ 0 l : S128x1x128.Idx) (by
    rw [Shape.rowMajor_val_three, Shape.rowMajor_val_two]
    show (j.val * 1 + 0) * 128 + l.val = j.val * 128 + l.val
    omega)]
  rw [extractStridedSlice_apply _ _ _ _ (ix3 ⟨j.val, by omega⟩ 0 l : S128x8x128.Idx) (by intro a; fin_cases a <;> simp)]

theorem emit_read (𝒱 : Variants) (bd : Option 𝒱.V) (k0_h2 : k0_cond2 i = 1#1) (X : arg6.view.ty.Contents (Elt F))
    (v : View sig .tc .vmem S512x100 .f32) (f : v.ty.Contents (Elt F)) (g : Fin 4) (l : Fin 128) (j : Fin 100) (n : ℕ)
    (hn : n ≤ 4) (hg : g.val < n) :
    View.read (Elt F) v (v.writes (Elt F) f
      (pb_k0_t2 (F := F) 𝒱 c bd i arg1 harg1 arg2 harg2 arg3 harg3 arg4 harg4 arg5 harg5 arg6 harg6 k0_h2 X n)) (ix2 ⟨128 * g.val + l.val, by omega⟩ j) =
      finishV (shapeCast (VS 128) (listV (View.read (Elt F) arg6.view X) g) (by decide)) (ix3 ⟨j.val, by omega⟩ 0 l) := by
  induction n with
  | zero => omega
  | succ n ih =>
    have hs := pb_k0_t2_succ (F := F) 𝒱 c bd i arg1 harg1 arg2 harg2 arg3 harg3 arg4 harg4 arg5 harg5 arg6 harg6 k0_h2 X (⟨n, hn⟩ : Fin k0_t2_loop.trips)
    refine (congrArg (fun P => View.read (Elt F) v (v.writes (Elt F) f P) _) hs).trans ?_
    have hL : tripL_k0_t2 (F := F) 𝒱 c bd i arg1 harg1 arg2 harg2 arg3 harg3 arg4 harg4 arg5 harg5 arg6 harg6 k0_h2 X (⟨n, hn⟩ : Fin k0_t2_loop.trips) =
        [⟨Rect.unit (s := S512x100) (k0_off4 (⟨n, hn⟩ : Fin k0_t2_loop.trips)) S128x100.size
          (Cert.KernelIdeal.Gen.k0_off4_inb i _ k0_h2),
          k0_pay4 (trip_k0_t2.sl.r_8 i arg6 k0_h2 X (⟨n, hn⟩ : Fin k0_t2_loop.trips))⟩] := by
      unfold tripL_k0_t2 trip_k0_t2
      exact id rfl
    rw [hL, List.singleton_append]
    by_cases h : g.val = n
    · have hx := View.read_writes_cons_unit_of_mem v f
        (Cert.KernelIdeal.Gen.k0_off4_inb i (⟨n, hn⟩ : Fin k0_t2_loop.trips) k0_h2)
        (k0_pay4 (trip_k0_t2.sl.r_8 i arg6 k0_h2 X (⟨n, hn⟩ : Fin k0_t2_loop.trips)))
        (pb_k0_t2 (F := F) 𝒱 c bd i arg1 harg1 arg2 harg2 arg3 harg3 arg4 harg4 arg5 harg5 arg6 harg6 k0_h2 X n)
        (ix2 ⟨128 * g.val + l.val, by omega⟩ j : S512x100.Idx) (ix2 l j : S128x100.Idx)
        (Cert.KernelIdeal.Gen.k0_off4_eq ⟨n, hn⟩)
        (by intro a; fin_cases a
            · show 128 * g.val + l.val = 128 * n + l.val
              omega
            · show j.val = 0 + j.val
              omega)
      refine hx.trans ?_
      rw [finish_trip, pay4_apply]
      obtain rfl : g = ⟨n, hn⟩ := Fin.ext h
      rfl
    · have hx := View.read_writes_cons_unit_of_not_mem v f
        (Cert.KernelIdeal.Gen.k0_off4_inb i (⟨n, hn⟩ : Fin k0_t2_loop.trips) k0_h2)
        (k0_pay4 (trip_k0_t2.sl.r_8 i arg6 k0_h2 X (⟨n, hn⟩ : Fin k0_t2_loop.trips)))
        (pb_k0_t2 (F := F) 𝒱 c bd i arg1 harg1 arg2 harg2 arg3 harg3 arg4 harg4 arg5 harg5 arg6 harg6 k0_h2 X n)
        (ix2 ⟨128 * g.val + l.val, by omega⟩ j : S512x100.Idx)
        (Cert.KernelIdeal.Gen.k0_off4_eq ⟨n, hn⟩) (0 : Fin 2)
        (by left
            show 128 * g.val + l.val < 128 * n
            omega)
      refine hx.trans ?_
      exact ih (by omega) (by omega)

variable (hn0 : ¬cond0_0 i) (hc1 : cond0_1 i)
  (x0 : Vec F S512x768 .bf16) (x1 : Vec F S2048x768 .i8) (x2 : Vec F S3840x128 .f32) (xs0 : Vec F S768x512 .bf16)
  (xs1 : Vec F S4x128x8x128 .f32)

/-- The result the last point leaves. -/
theorem out_C (g : Fin 4) (l : Fin 128) (j : Fin 100) :
    out0_C_3 c i arg1 harg1 arg2 harg2 arg3 harg3 arg4 harg4 arg5 harg5 arg6 harg6 hn0 hc1 x0 x1 x2 xs0 xs1 (ix2 ⟨128 * g.val + l.val, by omega⟩ j) =
      finishV (shapeCast (VS 128) (pointV i g xs0 x1 x2 (listV xs1 g)) (by decide)) (ix3 ⟨j.val, by omega⟩ 0 l) := by
  have h := emit_read c i arg1 harg1 arg2 harg2 arg3 harg3 arg4 harg4 arg5 harg5 arg6 harg6 Variants.none none hc1 (arg6.view.writes (Elt F) (harg6.unread xs1)
    (pb_k0_t1 Variants.none c none i arg1 harg1 arg2 harg2 arg3 harg3 arg4 harg4 arg5 harg5 arg6 harg6
      (BitVec.ofNat 32 (i 0)) (harg2.unread x1) (harg3.unread x2) (harg5.unread xs0) (harg6.unread xs1)
      (Scf.trips (0#32) (Scalar.addi 0#32 2#32) 1#32) ++ [])) VO0_3 VO0_3.junk g l j 4 le_rfl g.isLt
  have hl : listV (View.read (Elt F) arg6.view (arg6.view.writes (Elt F) (harg6.unread xs1)
    (pb_k0_t1 Variants.none c none i arg1 harg1 arg2 harg2 arg3 harg3 arg4 harg4 arg5 harg5 arg6 harg6
      (BitVec.ofNat 32 (i 0)) (harg2.unread x1) (harg3.unread x2) (harg5.unread xs0) (harg6.unread xs1)
      (Scf.trips (0#32) (Scalar.addi 0#32 2#32) 1#32) ++ []))) g = _ :=
    two_read c i arg1 harg1 arg2 harg2 arg3 harg3 arg4 harg4 arg5 harg5 arg6 harg6 Variants.none none (BitVec.ofNat 32 (i 0)) xs0 x1 x2 (harg5.unread xs0)
    (harg5.read_unread xs0) (harg6.unread xs1) g arg6.view (harg6.unread xs1) []
  rw [hl, harg6.read_unread, List.append_nil] at h
  exact h
end

/-! ### The columns folded, over the extended reals -/

/-- Folded columns hold the largest entries of both. -/
theorem isTop_foldV (sh : BitVec 32) (x : FVec Ideal (VS 128) .f32) (l : Fin 128) (c : Fin 8 → EReal → ℕ)
    (h : ∀ s, IsTop 128 (col x s l) (c s)) (s s' : Fin 8) (hs : s'.val = (s.val + 8 - sh.toNat % 8) % 8) :
    IsTop 128 (col (foldV sh x) s l) (fun t => c s t + c s' t) := by
  unfold foldV
  rw [col_mergeV]
  refine IsTop.mergeTop (k := 7) (w := 128) (by decide) (h s) (h s') (Or.inl rfl) ?_ ?_
  · intro i hi
    exact absurd hi (by simp)
  · intro i _ hi
    have hi' : i < 128 := by simpa using hi
    rw [col_max, col_flipV _ _ _ _ hi']
    congr 1
    rw [col_lt _ _ _ (show 128 - 1 - i < 128 by omega)]
    rw [col_lt _ _ _ (show 2 ^ 7 - 1 - i < 128 by simp; omega)]
    refine dynamicRotate_apply _ _ _ _ _ _ ?_
    intro a
    fin_cases a
    · rfl
    · exact hs
    · rfl

/-- All eight columns, folded into the first. -/
theorem isTop_finishV (x : FVec Ideal (VS 128) .f32) (l : Fin 128) (c : Fin 8 → EReal → ℕ)
    (h : ∀ s, IsTop 128 (col x s l) (c s)) :
    IsTop 128 (col (finishV x) 0 l) (fun t => ∑ s, c s t) := by
  have h4 : ∀ s, IsTop 128 (col (foldV 4#32 x) s l) (fun t => c s t + c (s + 4) t) := fun s =>
    isTop_foldV _ x l c h s (s + 4) (by revert s; decide)
  have h2 : ∀ s, IsTop 128 (col (foldV 2#32 (foldV 4#32 x)) s l)
      (fun t => (c s t + c (s + 4) t) + (c (s + 6) t + c (s + 6 + 4) t)) := fun s =>
    isTop_foldV _ _ l (fun s t => c s t + c (s + 4) t) h4 s (s + 6) (by revert s; decide)
  have h1 := isTop_foldV 1#32 _ l (fun s t => (c s t + c (s + 4) t) + (c (s + 6) t + c (s + 6 + 4) t)) h2 0 7 (by decide)
  refine h1.congr (fun i _ => rfl) fun t => ?_
  rw [Fin.sum_univ_eight]
  show _ = (c 0 t + c 4 t + (c 6 t + c 2 t)) + (c 7 t + c 3 t + (c 5 t + c 1 t))
  omega

end Cert.Proof
-- ==== Proof.Scan.lean ====
/- What the lists hold, over the extended reals: after a block, the largest of what they held and of the block's
   scores, each of the eight columns of a list its own eighth of the codes. -/
module

public import proofs.«01_k».proof.Proof.Finish
public import Idealize.ShloMosaic.Lib.MatmulPlain
public import Idealize.ShloMosaic.Lib.Pipeline.ValueKit.Tiles

@[expose] public section

set_option maxRecDepth 100000

noncomputable section

namespace Cert.Proof

open Idealize.ShloMosaic Idealize.ShloMosaic.ValueIdx Cert.KernelIdeal Cert.KernelIdeal.Gen

/-- One score of 256. -/
theorem scoresV_apply (codes : Vec Ideal S256x768 .i8) (q : Vec Ideal S768x512 .bf16) (a : Fin 256) (r : Fin 512) :
    scoresV (F := Ideal) codes q (ix2 a r) =
      ∑ d : Fin 768, (FloatOps.sitofp (F := Ideal) .bf16 (codes (ix2 a d)) : EReal) * (q (ix2 d r) : EReal) := by
  refine (Ideal.matmul_plain_apply (φ₁ := .bf16) (φ₂ := .bf16) none (sitofp .bf16 codes) q
    (constant S256x512 .f32 0x00000000#32) a r).trans ?_
  have h0 : (constant S256x512 .f32 0x00000000#32 : FVec Ideal S256x512 .f32) (ix2 a r) = (0 : EReal) :=
    Ideal.ofBits_zero_f32
  rw [h0, zero_add]
  rfl

/-- The codes of a unit, out of the block. -/
theorem codesV_apply (x1 : Vec Ideal S2048x768 .i8) (k : Fin k0_t1_loop.trips) (u : Fin 4) (a : Fin 256) (d : Fin 768)
    (n : Fin 2048) (hn : n.val = 1024 * k.val + 256 * u.val + a.val) :
    codesV (F := Ideal) x1 k u (ix2 a d) = x1 (ix2 n d) := by
  refine congrArg x1 (funext fun b => Fin.ext ?_)
  refine (Rect.idx_unit_val _ _ _ _ b).trans ((congrArg (· + _) (congrFun (Cert.KernelIdeal.Gen.k0_off2_eq k u) b)).trans ?_)
  fin_cases b
  · exact hn.symm
  · exact Nat.zero_add _

/-- The scales of a tile, out of all of them. -/
theorem scalesV_apply (i : grid0.Coords) (x2 : Vec Ideal S3840x128 .f32) (k : Fin k0_t1_loop.trips) (a : Fin 128)
    (b : Fin 8) (n : Fin 3840) (hn : n.val = 16 * (i 0).val + 8 * k.val + b.val) :
    scalesV (F := Ideal) i x2 k (ix2 a b) = x2 (ix2 n a) := by
  unfold scalesV k0_pay5
  rw [transpose_apply _ _ _ _ (ix2 b a : S8x128.Idx) (by intro a; fin_cases a <;> rfl)]
  rw [shapeCast_self]
  refine congrArg x2 (funext fun b => Fin.ext ?_)
  refine (Rect.idx_unit_val _ _ _ _ b).trans ((congrArg (· + _) (congrFun (Cert.KernelIdeal.Gen.k0_off1_eq i k) b)).trans ?_)
  fin_cases b
  · exact hn.symm
  · exact Nat.zero_add _

/-- One entry of a row of scores. -/
theorem rowV_apply (u g : Fin 4) (r : Fin 32) (sc : FVec Ideal ⟨2, ![256, 512]⟩ .f32) (sT : FVec Ideal ⟨2, ![128, 8]⟩ .f32)
    (s : Fin 8) (l : Fin 128) (a : Fin 256) (q : Fin 512) (e : Fin 128) (b : Fin 8) (ha : a.val = 8 * r.val + s.val)
    (hq : q.val = 128 * g.val + l.val) (he : e.val = (256 * u.val + 8 * r.val) % 128 + s.val)
    (hb : b.val = (256 * u.val + 8 * r.val) / 128) :
    rowV u g r sc sT (ix2 s l) = (sc (ix2 a q) : EReal) * sT (ix2 e b) := by
  unfold rowV
  rw [mulf_apply]
  refine congrArg₂ (· * ·) ?_ ?_
  · exact extractStridedSlice_apply _ _ _ _ (ix2 a q : (⟨2, ![256, 512]⟩ : Shape).Idx) (by
      intro c; fin_cases c
      · exact ha
      · exact hq)
  · refine (broadcastTo_apply _ _ _ (ix2 s 0 : (⟨2, ![8, 1]⟩ : Shape).Idx) (by
      intro c; fin_cases c <;> rfl)).trans ?_
    rw [shapeCast_self]
    exact extractStridedSlice_apply _ _ _ _ (ix2 e b : (⟨2, ![128, 8]⟩ : Shape).Idx) (by
      intro c; fin_cases c
      · exact he
      · exact hb)

/-- A column of the piece of a unit. -/
theorem col_pieceV (u g : Fin 4) (sc : FVec Ideal ⟨2, ![256, 512]⟩ .f32) (sT : FVec Ideal ⟨2, ![128, 8]⟩ .f32)
    (s : Fin 8) (l : Fin 128) (r : Fin 32) :
    col (pieceV u g sc sT) s l r.val = rowV u g r sc sT (ix2 s l) := by
  have h := col_concatN (n := 32) (fun r : Fin 32 => shapeCast (VS 1) (rowV u g r sc sT) (by decide))
    (VS_concatenatesN _ (by decide) rfl) rfl s l r (i := 0) Nat.zero_lt_one
  have e : r.val * 1 + 0 = r.val := by omega
  rw [e] at h
  refine h.trans ?_
  rw [col_lt _ _ _ Nat.zero_lt_one]
  exact shapeCast_apply _ _ _ _ (by
    rw [Shape.rowMajor_val_three, Shape.rowMajor_val_two]
    show s.val * 128 + l.val = (0 * 8 + s.val) * 128 + l.val
    omega)

/-- One column of a list as it lies in memory. -/
def lcol (best : FVec Ideal S1x128x8x128 .f32) (s : Fin 8) (l : Fin 128) : ℕ → EReal :=
  col (shapeCast (VS 128) best (by decide)) s l

/-- The block `x1` of point `i`, with the scales `x2` and the queries `q`, has the scores `S`. -/
def HasScores (i : grid0.Coords) (q : Vec Ideal S768x512 .bf16) (x1 : Vec Ideal S2048x768 .i8)
    (x2 : Vec Ideal S3840x128 .f32) (S : ℕ → Fin 512 → EReal) : Prop :=
  ∀ (n : Fin 2048) (r : Fin 512) (a : Fin 3840) (b : Fin 128), a.val = 16 * (i 0).val + n.val / 128 → b.val = n.val % 128 →
    (∑ d : Fin 768, (FloatOps.sitofp (F := Ideal) .bf16 (x1 (ix2 n d)) : EReal) * (q (ix2 d r) : EReal)) * x2 (ix2 a b) =
      S (2048 * (i 0).val + n.val) r

section
variable (i : grid0.Coords) (q : Vec Ideal S768x512 .bf16) (x1 : Vec Ideal S2048x768 .i8)
  (x2 : Vec Ideal S3840x128 .f32) (S : ℕ → Fin 512 → EReal) (hS : HasScores i q x1 x2 S)
  (g : Fin 4) (s : Fin 8) (l : Fin 128)

/-- The query a column of a list belongs to. -/
abbrev queryOf (g : Fin 4) (l : Fin 128) : Fin 512 := ⟨128 * g.val + l.val, by omega⟩

include hS in
theorem col_unit (k : Fin k0_t1_loop.trips) (u : Fin 4) (r : ℕ) (hr : r < 32) :
    col (pieceV u g (scoresV (codesV x1 k u) q) (scalesV i x2 k)) s l r =
      S (2048 * (i 0).val + 1024 * k.val + 256 * u.val + 8 * r + s.val) (queryOf g l) := by
  have hk : k.val < 2 := k.isLt
  have hi : (i 0).val < 240 := (i 0).isLt
  refine (col_pieceV u g _ _ s l ⟨r, hr⟩).trans ?_
  rw [rowV_apply u g ⟨r, hr⟩ _ _ s l ⟨8 * r + s.val, by omega⟩ (queryOf g l)
    ⟨(256 * u.val + 8 * r) % 128 + s.val, by omega⟩ ⟨(256 * u.val + 8 * r) / 128, by omega⟩ rfl rfl rfl rfl]
  rw [scoresV_apply, scalesV_apply i x2 k _ _
    ⟨16 * (i 0).val + 8 * k.val + (256 * u.val + 8 * r) / 128, by omega⟩ rfl]
  have h := hS ⟨1024 * k.val + 256 * u.val + (8 * r + s.val), by omega⟩ (queryOf g l)
    ⟨16 * (i 0).val + 8 * k.val + (256 * u.val + 8 * r) / 128, by omega⟩
    ⟨(256 * u.val + 8 * r) % 128 + s.val, by omega⟩ (by simp only; omega) (by simp only; omega)
  have hsum : (∑ d : Fin 768, (FloatOps.sitofp (F := Ideal) .bf16 (codesV x1 k u (ix2 ⟨8 * r + s.val, by omega⟩ d)) : EReal) *
      (q (ix2 d (queryOf g l)) : EReal)) =
      ∑ d : Fin 768, (FloatOps.sitofp (F := Ideal) .bf16
        (x1 (ix2 ⟨1024 * k.val + 256 * u.val + (8 * r + s.val), by omega⟩ d)) : EReal) * (q (ix2 d (queryOf g l)) : EReal) :=
    Finset.sum_congr rfl fun d _ => by
      rw [codesV_apply x1 k u _ d ⟨1024 * k.val + 256 * u.val + (8 * r + s.val), by omega⟩ rfl]
  refine (congrArg (· * _) hsum).trans (h.trans ?_)
  refine congrArg (fun n => S n (queryOf g l)) ?_
  simp only
  omega

include hS in
/-- A list after one unit. -/
theorem isTop_unit (k : Fin k0_t1_loop.trips) (u : Fin 4) (best : FVec Ideal S1x128x8x128 .f32) (c : EReal → ℕ)
    (h : IsTop 128 (lcol best s l) c) :
    IsTop 128 (lcol (unitV u g (scoresV (codesV x1 k u) q) (scalesV i x2 k) best) s l)
      (fun t => c t + cnt 32 (fun r => S (2048 * (i 0).val + 1024 * k.val + 256 * u.val + 8 * r + s.val) (queryOf g l)) t) := by
  have hs := (isTop_sortV (pieceV u g (scoresV (codesV x1 k u) q) (scalesV i x2 k)) s l).congr (fun i _ => rfl)
    (fun t => (cnt_congr (fun r hr => (col_unit i q x1 x2 S hS g s l k u r hr).symm) t))
  have ht := isTop_takeV (shapeCast (VS 128) best (by decide)) _ s l c _ h hs (cnt_le 32 _)
  refine ht.congr (fun j _ => ?_) fun t => rfl
  unfold lcol unitV listTake
  rw [shapeCast_shapeCast]

include hS in
/-- A list after one tile. -/
theorem isTop_tile (k : Fin k0_t1_loop.trips) (best : FVec Ideal S1x128x8x128 .f32) (c : EReal → ℕ)
    (h : IsTop 128 (lcol best s l) c) :
    IsTop 128 (lcol (tripV i g q x1 x2 k best) s l)
      (fun t => c t + cnt 128 (fun r => S (2048 * (i 0).val + 1024 * k.val + 8 * r + s.val) (queryOf g l)) t) := by
  have h0 := isTop_unit i q x1 x2 S hS g s l k 0 best c h
  have h1 := isTop_unit i q x1 x2 S hS g s l k 1 _ _ h0
  have h2 := isTop_unit i q x1 x2 S hS g s l k 2 _ _ h1
  have h3 := isTop_unit i q x1 x2 S hS g s l k 3 _ _ h2
  refine h3.congr (fun j _ => rfl) fun t => ?_
  have e := cnt_add (32 + 32 + 32) 32 (fun r => S (2048 * (i 0).val + 1024 * k.val + 8 * r + s.val) (queryOf g l)) t
  rw [cnt_add (32 + 32) 32, cnt_add 32 32] at e
  refine (congrArg (c t + ·) e).trans ?_
  rw [← Nat.add_assoc, ← Nat.add_assoc, ← Nat.add_assoc]
  have hu : ∀ (o : ℕ) (u : Fin 4), o = 32 * u.val →
      cnt 32 (fun r => S (2048 * (i 0).val + 1024 * k.val + 8 * (o + r) + s.val) (queryOf g l)) t =
      cnt 32 (fun r => S (2048 * (i 0).val + 1024 * k.val + 256 * u.val + 8 * r + s.val) (queryOf g l)) t := by
    intro o u ho
    refine cnt_congr (fun r _ => congrArg (fun n => S n (queryOf g l)) ?_) t
    omega
  have hu0 := hu 0 0 rfl
  simp only [Nat.zero_add] at hu0
  rw [hu0, hu 32 1 rfl, hu (32 + 32) 2 rfl, hu (32 + 32 + 32) 3 rfl]

include hS in
/-- A list after one block. -/
theorem isTop_point (best : FVec Ideal S1x128x8x128 .f32) (c : EReal → ℕ)
    (h : IsTop 128 (lcol best s l) c) :
    IsTop 128 (lcol (pointV i g q x1 x2 best) s l)
      (fun t => c t + cnt 256 (fun r => S (2048 * (i 0).val + 8 * r + s.val) (queryOf g l)) t) := by
  have h0 := isTop_tile i q x1 x2 S hS g s l trip0 best c h
  have h1 := isTop_tile i q x1 x2 S hS g s l trip1 _ _ h0
  refine h1.congr (fun j _ => rfl) fun t => ?_
  have e := cnt_add 128 128 (fun r => S (2048 * (i 0).val + 8 * r + s.val) (queryOf g l)) t
  refine (congrArg (c t + ·) e).trans ?_
  rw [← Nat.add_assoc]
  refine congrArg₂ (· + ·) (congrArg (c t + ·) (cnt_congr (fun r _ => congrArg (fun n => S n (queryOf g l)) ?_) t))
    (cnt_congr (fun r _ => congrArg (fun n => S n (queryOf g l)) ?_) t)
  · show _ = 2048 * (i 0).val + 1024 * 0 + 8 * r + s.val
    omega
  · show _ = 2048 * (i 0).val + 1024 * 1 + 8 * r + s.val
    omega

end

/-- The eighths together: all of the sequence. -/
theorem sum_cnt (N : ℕ) (f : ℕ → EReal) (t : EReal) :
    ∑ s : Fin 8, cnt N (fun r => f (8 * r + s.val)) t = cnt (8 * N) f t := by
  induction N with
  | zero => simp [cnt]
  | succ N ih =>
    have h1 : ∀ s : Fin 8, cnt (N + 1) (fun r => f (8 * r + s.val)) t =
        cnt N (fun r => f (8 * r + s.val)) t + if t ≤ f (8 * N + s.val) then 1 else 0 := fun s => Finset.sum_range_succ _ _
    rw [Finset.sum_congr rfl fun s _ => h1 s, Finset.sum_add_distrib, ih, Nat.mul_add, cnt_add]
    refine congrArg (_ + ·) ?_
    unfold cnt
    rw [Finset.sum_range]

end Cert.Proof
-- ==== Proof.Score.lean ====
/- The score of a code against a query, over the extended reals, as a function of the three argument arrays. -/
module

public import proofs.«01_k».proof.Proof.Top

@[expose] public section

noncomputable section

namespace Cert.Proof

open Idealize.ShloMosaic Idealize.ShloMosaic.ValueIdx

/-- The inner product of the code `n` with the query `r`, times the code's scale; no score past the last code. -/
def score (x : Vec Ideal ⟨3, ![4, 128, 768]⟩ .bf16) (codes : Vec Ideal ⟨2, ![491520, 768]⟩ .i8)
    (scales : Vec Ideal ⟨1, ![491520]⟩ .f32) (n : ℕ) (r : Fin 512) : EReal :=
  if h : n < 491520 then
    (∑ d : Fin 768, (FloatOps.sitofp (F := Ideal) .bf16 (codes (ix2 ⟨n, h⟩ d)) : EReal) *
      (x (ix3 (⟨r.val / 128, by omega⟩ : Fin 4) (⟨r.val % 128, by omega⟩ : Fin 128) d) : EReal)) *
      (scales (ix1 (⟨n, h⟩ : Fin 491520)) : EReal)
  else ⊥

end Cert.Proof
-- ==== Proof.Grid.lean ====
/- What the kernel leaves, over the extended reals: row by row, the largest of all the scores, in order. -/
module

public import Idealize.ShloMosaic.Lib.Pipeline.ValueKit
public import Idealize.ShloMosaic.Lib.Claim
public import proofs.«01_k».proof.Proof.Scan
public import proofs.«01_k».proof.Proof.Score

@[expose] public section

set_option maxRecDepth 16384

noncomputable section

namespace Cert.Proof

open Idealize.ShloMosaic hiding ix1 ix2 ix3 mulf_apply
open Idealize.ShloMosaic.ValueIdx Idealize.ShloMosaic.TcCoe
open Cert.KernelIdeal Cert.KernelIdeal.Gen Cert.KernelIdeal.Value

variable (m : (ℓ : Loc nD τ sig) → Buf (Elt Ideal) ℓ)

/-- The scores of the launched arguments. -/
def scoreOf (c : Dev nD) : ℕ → Fin 512 → EReal :=
  score (m ((c : Thread nD τ).loc main_arg0)) (m ((c : Thread nD τ).loc main_arg1)) (m ((c : Thread nD τ).loc main_arg2))

theorem V_main_v0 (c : Dev nD) (r : Fin 512) (d : Fin 768) : V m c main_v0 (ix2 r d) =
    m ((c : Thread nD τ).loc main_arg0) (ix3 (⟨r.val / 128, by omega⟩ : Fin 4) (⟨r.val % 128, by omega⟩ : Fin 128) d) := by
  entry_read
  refine shapeCast_apply _ _ _ _ ?_
  show ((⟨3, ![4, 128, 768]⟩ : Shape).rowMajor (ix3 _ _ d)).val = ((⟨2, ![512, 768]⟩ : Shape).rowMajor (ix2 r d)).val
  rw [Shape.rowMajor_val_three, Shape.rowMajor_val_two]
  show (r.val / 128 * 128 + r.val % 128) * 768 + d.val = r.val * 768 + d.val
  omega

theorem V_main_v1 (c : Dev nD) (a : Fin 3840) (b : Fin 128) (n : Fin 491520) (hn : n.val = 128 * a.val + b.val) :
    V m c main_v1 (ix2 a b) = m ((c : Thread nD τ).loc main_arg2) (ix1 n) := by
  entry_read
  refine shapeCast_apply _ _ _ _ ?_
  show ((⟨1, ![491520]⟩ : Shape).rowMajor (ix1 n)).val = ((⟨2, ![3840, 128]⟩ : Shape).rowMajor (ix2 a b)).val
  rw [Shape.rowMajor_val_one, Shape.rowMajor_val_two]
  show n.val = a.val * 128 + b.val
  omega

theorem idx_facts : ∀ t : Fin cfg0.N, win0_0.index t = ![0, 0] ∧ win0_1.index t = ![t.val, 0] ∧ win0_2.index t = ![0, 0] ∧
    (grid0.coords t 0).val = t.val := (by decide +kernel : ∀ t : Fin grid0.N, _)

theorem iblk0 (c : Dev nD) (t : Fin cfg0.N) (r : Fin 512) (d : Fin 768) :
    iblk m c 0 t (ix2 r d) = V m c main_v0 (ix2 r d) := by
  blk_ext [iblk, (idx_facts t).1]

theorem iblk1 (c : Dev nD) (t : Fin cfg0.N) (a : Fin 2048) (d : Fin 768) (n : Fin 491520)
    (hn : n.val = 2048 * t.val + a.val) :
    iblk m c 1 t (ix2 a d) = V m c main_arg1 (ix2 n d) := by
  blk_ext [iblk, (idx_facts t).2.1]
  show t.val * 2048 + a.val = n.val
  omega

theorem iblk2 (c : Dev nD) (t : Fin cfg0.N) (a : Fin 3840) (b : Fin 128) :
    iblk m c 2 t (ix2 a b) = V m c main_v1 (ix2 a b) := by
  blk_ext [iblk, (idx_facts t).2.2.1]

/-- The queries, transposed, as every point finds them. -/
def queriesT (c : Dev nD) : Vec Ideal S768x512 .bf16 := k0_pay1 (F := Ideal) (V m c main_v0)

theorem pay1_block (c : Dev nD) (t : Fin cfg0.N) : k0_pay1 (F := Ideal) (iblk m c 0 t) = queriesT m c := by
  refine congrArg (k0_pay1 (F := Ideal)) (funext fun y => ?_)
  have hy : y = ix2 (y 0 : Fin 512) (y 1 : Fin 768) := by funext a; fin_cases a <;> rfl
  rw [hy]
  exact iblk0 m c t _ _

theorem queriesT_apply (c : Dev nD) (d : Fin 768) (r : Fin 512) :
    queriesT m c (ix2 d r) = V m c main_v0 (ix2 r d) := by
  unfold queriesT k0_pay1
  dsimp only
  rw [shapeCast_self, transpose_apply _ _ _ _ (ix2 r d : S512x768.Idx) (by intro a; fin_cases a <;> rfl), shapeCast_self]

/-- The point `t` finds its block of the scores. -/
theorem hasScores (c : Dev nD) (t : Fin cfg0.N) :
    HasScores (grid0.coords t) (queriesT m c) (iblk m c 1 t) (iblk m c 2 t) (scoreOf m c) := by
  intro n r a b ha hb
  have ht : t.val < 240 := lt_of_lt_of_eq t.isLt N_0
  have hi := (idx_facts t).2.2.2
  have hlt : 2048 * t.val + n.val < 491520 := by omega
  rw [hi] at ha ⊢
  unfold scoreOf score
  rw [dif_pos hlt]
  refine congrArg₂ (· * ·) (Finset.sum_congr rfl fun d _ => congrArg₂ (· * ·) ?_ ?_) ?_
  · exact congrArg _ ((iblk1 m c t n d ⟨_, hlt⟩ rfl).trans (congrFun (V_main_arg1 m c) _))
  · exact (queriesT_apply m c d r).trans (V_main_v0 m c r d)
  · exact (iblk2 m c t a b).trans (V_main_v1 m c a b ⟨_, hlt⟩ (by show 2048 * t.val + n.val = _; omega))

/-- How many entries of a list are at least `t` before any block. -/
def emptyCount (t : EReal) : ℕ := if t ≤ ⊥ then 128 else 0

theorem negInf : Ideal.ofBits .f32 0xFF800000#32 = ⊥ := by simp [Ideal.ofBits, Ideal.ieee]

theorem isTop_empty (g : Fin 4) (s : Fin 8) (l : Fin 128) :
    IsTop 128 (lcol (listV (k0_pay2 (F := Ideal)) g) s l) emptyCount := by
  intro t i hi
  have h : lcol (listV (k0_pay2 (F := Ideal)) g) s l i = ⊥ := by
    unfold lcol
    rw [col_lt _ _ _ hi]
    exact negInf
  rw [h]
  unfold emptyCount
  by_cases ht : t ≤ ⊥
  · simp [ht, hi]
  · simp [ht]

/-- Counting one block of `B` entries more, of one of eight interleaved columns. -/
theorem count_block (f : ℕ → EReal) (s : Fin 8) (i B W a : ℕ) (hW : W = 8 * B) (x : EReal) :
    a + cnt (B * (i + 1)) (fun r => f (8 * r + s.val)) x =
      a + cnt (B * i) (fun r => f (8 * r + s.val)) x + cnt B (fun r => f (W * i + 8 * r + s.val)) x := by
  subst hW
  rw [Nat.mul_succ, cnt_add, ← Nat.add_assoc]
  have h : (fun r => f (8 * (B * i + r) + s.val)) = fun r => f (8 * B * i + 8 * r + s.val) := by
    funext r
    exact congrArg f (by ring)
  rw [h]

/-- The counts of the codes before a block and of the block's, together. -/
theorem count_step (f : ℕ → EReal) (s : Fin 8) (i n : ℕ) (hi : i = n) (x : EReal) :
    emptyCount x + cnt (256 * (n + 1)) (fun r => f (8 * r + s.val)) x =
      emptyCount x + cnt (256 * n) (fun r => f (8 * r + s.val)) x + cnt 256 (fun r => f (2048 * i + 8 * r + s.val)) x := by
  subst hi
  exact count_block f s i 256 2048 _ rfl x

/-- A list after one block, the counts given. -/
theorem isTop_point_of (i : grid0.Coords) (q : Vec Ideal S768x512 .bf16) (x1 : Vec Ideal S2048x768 .i8)
    (x2 : Vec Ideal S3840x128 .f32) (S : ℕ → Fin 512 → EReal) (hS : HasScores i q x1 x2 S) (g : Fin 4) (s : Fin 8)
    (l : Fin 128) (best : FVec Ideal S1x128x8x128 .f32) (c d : EReal → ℕ) (h : IsTop 128 (lcol best s l) c)
    (hd : ∀ t, d t = c t + cnt 256 (fun r => S (2048 * (i 0).val + 8 * r + s.val) (queryOf g l)) t) :
    IsTop 128 (lcol (pointV i g q x1 x2 best) s l) d := by
  rw [show d = _ from funext hd]
  exact isTop_point i q x1 x2 S hS g s l best c h

section
variable (c : Dev nD) (t : Fin cfg0.N)

theorem queries_first (h0 : t.val % 240 = 0) (h1 : ¬t.val % 240 = 239) :
    (outsAt0 m c t.val t.isLt).2.1 = queriesT m c := by
  rw [outsAt0_A m c t h0 h1]
  dsimp only
  rw [queries_A]
  exact pay1_block m c t

theorem queries_mid (h0 : ¬t.val % 240 = 0) (h1 : ¬t.val % 240 = 239) :
    (outsAt0 m c t.val t.isLt).2.1 = (outsAt0 m c (t.val - 1) (Nat.lt_of_le_of_lt (Nat.sub_le _ _) t.isLt)).2.1 := by
  rw [outsAt0_B m c t h0 h1]
  dsimp only [sout0_B_0]

theorem lists_first (h0 : t.val % 240 = 0) (h1 : ¬t.val % 240 = 239) (g : Fin 4) :
    listV (outsAt0 m c t.val t.isLt).2.2 g = pointV (grid0.coords t) g (queriesT m c) (iblk m c 1 t) (iblk m c 2 t)
      (listV (k0_pay2 (F := Ideal)) g) := by
  rw [outsAt0_A m c t h0 h1]
  dsimp only
  rw [lists_A, pay1_block]

theorem lists_mid (h0 : ¬t.val % 240 = 0) (h1 : ¬t.val % 240 = 239) (g : Fin 4) :
    listV (outsAt0 m c t.val t.isLt).2.2 g = pointV (grid0.coords t) g
      (outsAt0 m c (t.val - 1) (Nat.lt_of_le_of_lt (Nat.sub_le _ _) t.isLt)).2.1 (iblk m c 1 t) (iblk m c 2 t)
      (listV (outsAt0 m c (t.val - 1) (Nat.lt_of_le_of_lt (Nat.sub_le _ _) t.isLt)).2.2 g) := by
  rw [outsAt0_B m c t h0 h1]
  dsimp only
  rw [lists_B]

theorem out_last (h0 : ¬t.val % 240 = 0) (h1 : t.val % 240 = 239) (g : Fin 4) (l : Fin 128) (j : Fin 100) :
    (outsAt0 m c t.val t.isLt).1 (ix2 (queryOf g l) j) = finishV (shapeCast (VS 128) (pointV (grid0.coords t) g
      (outsAt0 m c (t.val - 1) (Nat.lt_of_le_of_lt (Nat.sub_le _ _) t.isLt)).2.1 (iblk m c 1 t) (iblk m c 2 t)
      (listV (outsAt0 m c (t.val - 1) (Nat.lt_of_le_of_lt (Nat.sub_le _ _) t.isLt)).2.2 g)) (by decide))
      (ix3 ⟨j.val, by omega⟩ 0 l) := by
  rw [outsAt0_C m c t h0 h1]
  dsimp only
  exact out_C ..

/-- A list after the point `t`, from what it held before it. -/
theorem isTop_step (g : Fin 4) (s : Fin 8) (l : Fin 128) (best : FVec Ideal S1x128x8x128 .f32) (n : ℕ) (hn : n = t.val)
    (h : IsTop 128 (lcol best s l)
      (fun x => emptyCount x + cnt (256 * n) (fun r => scoreOf m c (8 * r + s.val) (queryOf g l)) x)) :
    IsTop 128 (lcol (pointV (grid0.coords t) g (queriesT m c) (iblk m c 1 t) (iblk m c 2 t) best) s l)
      (fun x => emptyCount x + cnt (256 * (n + 1)) (fun r => scoreOf m c (8 * r + s.val) (queryOf g l)) x) := by
  exact isTop_point_of (grid0.coords t) (queriesT m c) (iblk m c 1 t) (iblk m c 2 t) (scoreOf m c) (hasScores m c t) g s l
    best _ _ h (count_step (fun n => scoreOf m c n (queryOf g l)) s (grid0.coords t 0).val n ((idx_facts t).2.2.2.trans hn.symm))
end

/-- The scratch after the point `n`: the queries, and the lists of the scores met so far. -/
theorem scratch (c : Dev nD) (n : ℕ) (hn : n < cfg0.N) (h9 : n < 239) :
    (outsAt0 m c n hn).2.1 = queriesT m c ∧ ∀ g s l, IsTop 128 (lcol (listV (outsAt0 m c n hn).2.2 g) s l)
      (fun t => emptyCount t + cnt (256 * (n + 1)) (fun r => scoreOf m c (8 * r + s.val) (queryOf g l)) t) := by
  induction n with
  | zero =>
    have h1 : ¬(⟨0, hn⟩ : Fin cfg0.N).val % 240 = 239 := fun h => absurd h (by show ¬0 % 240 = 239; decide)
    refine ⟨queries_first m c ⟨0, hn⟩ (Nat.zero_mod _) h1, fun g s l => ?_⟩
    rw [lists_first m c ⟨0, hn⟩ (Nat.zero_mod _) h1 g]
    refine isTop_step m c ⟨0, hn⟩ g s l _ 0 rfl ((isTop_empty g s l).congr (fun _ _ => rfl) fun t => ?_)
    exact Nat.add_zero _
  | succ n ih =>
    obtain ⟨hq, hl⟩ := ih (Nat.lt_of_succ_lt hn) (by omega)
    have h0 : ¬(⟨n + 1, hn⟩ : Fin cfg0.N).val % 240 = 0 := by show ¬(n + 1) % 240 = 0; omega
    have h1 : ¬(⟨n + 1, hn⟩ : Fin cfg0.N).val % 240 = 239 := by show ¬(n + 1) % 240 = 239; omega
    refine ⟨(queries_mid m c ⟨n + 1, hn⟩ h0 h1).trans hq, fun g s l => ?_⟩
    have e := lists_mid m c ⟨n + 1, hn⟩ h0 h1 g
    rw [e]
    refine Eq.mpr ?_ (isTop_step m c ⟨n + 1, hn⟩ g s l _ (n + 1) rfl (hl g s l))
    exact congrArg (fun q => IsTop 128 (lcol (pointV _ g q _ _ _) s l) _) hq

/-- The last point. -/
abbrev last : Fin cfg0.N := ⟨239, lt_of_lt_of_eq (by decide) N_0.symm⟩

/-- What the last point leaves in the result's block, row by row: the largest scores in order. -/
theorem out_spec (c : Dev nD) (g : Fin 4) (l : Fin 128) (j : Fin 100) (t : EReal) :
    t ≤ (outsAt0 m c 239 last.isLt).1 (ix2 (queryOf g l) j) ↔
      j.val < 8 * emptyCount t + cnt 491520 (fun n => scoreOf m c n (queryOf g l)) t := by
  obtain ⟨hq, hl⟩ := scratch m c (last.val - 1) (Nat.lt_of_le_of_lt (Nat.sub_le _ _) last.isLt) (by decide)
  have e := out_last m c last (by decide) (by decide) g l j
  rw [hq] at e
  have hs := isTop_finishV _ l _ fun s => isTop_step m c last g s l _ (last.val - 1 + 1) (by decide) (hl g s l)
  have ht := hs t j.val (by omega)
  rw [col_lt _ _ _ (by omega : j.val < 128)] at ht
  rw [e]
  refine ht.trans (iff_of_eq (congrArg (j.val < ·) ?_))
  have hsum := sum_cnt (256 * (last.val - 1 + 1 + 1)) (fun n => scoreOf m c n (queryOf g l)) t
  refine Finset.sum_add_distrib.trans (congrArg₂ (· + ·) ?_ hsum)
  simp

/-- The kernel's result, row by row. -/
theorem result_spec (c : Dev nD) (r : Fin 512) (j : Fin 100) (t : EReal) :
    t ≤ G3 m c (ix2 r j) ↔ j.val < 8 * emptyCount t + cnt 491520 (fun n => scoreOf m c n r) t := by
  have e : G3 m c = (outsAt0 m c 239 last.isLt).1 :=
    (G3_last m c).trans (congrArg (·.1) (outsAt0_sweep m c 239 last.isLt)).symm
  have hr : r = queryOf ⟨r.val / 128, by omega⟩ ⟨r.val % 128, by omega⟩ := Fin.ext (by
    show r.val = 128 * (r.val / 128) + r.val % 128
    omega)
  rw [e, hr]
  exact out_spec m c _ _ j t

end Cert.Proof
-- ==== Proof.TopK.lean ====
/- The host's top-k over the extended reals: the values it leaves are the largest of the row, in order. -/
module

public import Idealize.ShloMosaic.Lib.SortFacts
public import Idealize.ShloMosaic.Lib.ValueIdxCore
public import proofs.«01_k».proof.Proof.Top

@[expose] public section

noncomputable section

namespace Cert.Proof

open Idealize.ShloMosaic Idealize.ShloMosaic.ValueIdx

/-- In a list in descending order, the entries at least `t` come first. -/
theorem le_get_of_desc (L : List EReal) (h : L.Pairwise fun a b => b ≤ a) (t : EReal) (i : ℕ) (hi : i < L.length) :
    t ≤ L[i] ↔ i < L.countP (fun a => decide (t ≤ a)) := by
  induction L generalizing i with
  | nil => simp at hi
  | cons a l ih =>
    obtain ⟨ha, hl⟩ := List.pairwise_cons.mp h
    rw [List.countP_cons]
    by_cases hta : t ≤ a
    · cases i with
      | zero => simp [hta]
      | succ i => simpa [hta] using ih hl i (by simpa using hi)
    · have hz : l.countP (fun b => decide (t ≤ b)) = 0 :=
        List.countP_eq_zero.mpr fun b hb => by
          have := ha b hb
          simpa using lt_of_le_of_lt this (not_le.mp hta)
      rw [hz]
      cases i with
      | zero => simp [hta]
      | succ i =>
        have hil : i < l.length := by simpa using hi
        have hb := ha l[i] (List.getElem_mem _)
        have : ¬ t ≤ l[i] := fun h' => hta (h'.trans hb)
        simp [hta, this]

theorem countP_finRange_sum (n : ℕ) (f : Fin n → EReal) (t : EReal) :
    (List.finRange n).countP (fun k => decide (t ≤ f k)) = ∑ k : Fin n, if t ≤ f k then 1 else 0 := by
  induction n with
  | zero => simp
  | succ n ih =>
    rw [List.finRange_succ, List.countP_cons, List.countP_map, Fin.sum_univ_succ, ← ih fun k => f k.succ, Nat.add_comm]
    refine congrArg₂ (· + ·) ?_ rfl
    simp

theorem countP_finRange (n : ℕ) (f : Fin n → EReal) (t : EReal) :
    (List.finRange n).countP (fun k => decide (t ≤ f k)) = cnt n (fun i => if h : i < n then f ⟨i, h⟩ else ⊥) t := by
  unfold cnt
  rw [Finset.sum_range, countP_finRange_sum]
  refine Finset.sum_congr rfl fun k _ => ?_
  beta_reduce
  rw [dif_pos k.isLt]

/-- The entry a descending stable sort puts at the place `i`. -/
theorem sortedFrom_desc (n : ℕ) (f : Fin n → EReal) (t : EReal) (i : Fin n) :
    t ≤ f (sortedFrom (fun k k' => Ideal.cmp CmpDirection.gt.ordered (f k) (f k') == 1#1) i) ↔
      i.val < cnt n (fun i => if h : i < n then f ⟨i, h⟩ else ⊥) t := by
  have hb : (fun k k' => Ideal.cmp CmpDirection.gt.ordered (f k) (f k') == 1#1) = fun k k' => decide (f k' < f k) := by
    funext k k'
    show (BitVec.ofBool (decide (f k' < f k)) == 1#1) = decide (f k' < f k)
    cases decide (f k' < f k) <;> rfl
  rw [hb]
  have hperm := perm_stableSort (fun k k' => decide (f k' < f k)) (List.finRange n)
  have hpair := pairwise_stableSort (fun k k' => decide (f k' < f k)) (fun k k' => decide (f k' < f k))
    (fun a b h => by simpa using le_of_lt (by simpa using h)) (fun _ _ h => h)
    (fun a b c h h' => by simp only [decide_eq_false_iff_not, not_lt] at *; exact h.trans h') (List.finRange n)
  have hlen := length_sortPositions n (fun k k' => decide (f k' < f k))
  have key := le_get_of_desc ((sortPositions n (fun k k' => decide (f k' < f k))).map f) (by
    rw [List.pairwise_map]
    exact hpair.imp fun h => by simpa using h) t i.val (by rw [List.length_map, hlen]; exact i.isLt)
  rw [List.getElem_map, List.countP_map] at key
  refine (Iff.trans ?_ key).trans ?_
  · rfl
  · rw [← countP_finRange]
    exact iff_of_eq (congrArg (i.val < ·) (hperm.countP_eq _))

/-- The values of the host's top-k along the second axis. -/
theorem topK_apply {R N K : ℕ} (x : FVec Ideal ⟨2, ![R, N]⟩ .f32)
    (h : (⟨2, ![R, N]⟩ : Shape).Slices (fun _ => 0) ⟨2, ![R, K]⟩) (hK : K ≤ N) (r : Fin R) (j : Fin K) (t : EReal) :
    t ≤ (Host.topK (⟨2, ![R, K]⟩ : Shape) 1 (FloatOps.cmpfTotal (F := Ideal) (φ := .f32) .gt) x h).1 (ix2 r j) ↔
      j.val < cnt N (fun n => if hn : n < N then x (ix2 r ⟨n, hn⟩) else ⊥) t := by
  have e : (Host.topK (⟨2, ![R, K]⟩ : Shape) 1 (FloatOps.cmpfTotal (F := Ideal) (φ := .f32) .gt) x h).1 (ix2 r j) =
      x (ix2 r (sortedFrom (fun k k' => Ideal.cmp CmpDirection.gt.ordered (x (ix2 r k)) (x (ix2 r k')) == 1#1)
        (⟨j.val, lt_of_lt_of_le j.isLt hK⟩ : Fin N))) := by
    unfold Host.topK
    dsimp only
    rw [extractStridedSlice_apply _ _ _ _ (ix2 r (⟨j.val, lt_of_lt_of_le j.isLt hK⟩ : Fin N)) (by
      intro a; fin_cases a <;> simp)]
    have al : ∀ k : Fin ((⟨2, ![R, N]⟩ : Shape).size 1),
        (ix2 r (⟨j.val, lt_of_lt_of_le j.isLt hK⟩ : Fin N) : (⟨2, ![R, N]⟩ : Shape).Idx).along 1 k = ix2 r (k : Fin N) := by
      intro k; funext a
      fin_cases a
      · rfl
      · rfl
    unfold Host.sort2
    rw [dif_pos (Nat.lt_succ_self 1)]
    dsimp only
    refine congrArg x ((al _).trans (congrArg (ix2 r) (congrFun (congrArg sortedFrom (funext fun k => funext fun k' => ?_)) _)))
    exact congrArg₂ (fun a b => Ideal.cmp CmpDirection.gt.ordered (x a) (x b) == 1#1) (al k) (al k')
  rw [e]
  exact sortedFrom_desc N (fun k => x (ix2 r k)) t ⟨j.val, lt_of_lt_of_le j.isLt hK⟩

end Cert.Proof
-- ==== Proof.Reference.lean ====
/- What the reference leaves, over the extended reals: row by row, the largest of all the scores, in order. -/
module

public import proofs.«01_k».proof.Proof.Gen.ReferenceIdeal.Frame
public import Idealize.ShloMosaic.Lib.MatmulPlain
public import Idealize.ShloMosaic.Lib.Pipeline.ValueKit
public import Idealize.ShloMosaic.Lib.Claim
public import proofs.«01_k».proof.Proof.TopK
public import proofs.«01_k».proof.Proof.Score

@[expose] public section

set_option maxRecDepth 16384

noncomputable section

namespace Cert.Proof.Reference

open Idealize.ShloMosaic hiding ix1 ix2 ix3 mulf_apply
open Idealize.ShloMosaic.ValueIdx Idealize.ShloMosaic.TcCoe Idealize.SL.Sem
open Cert.ReferenceIdeal Cert.ReferenceIdeal.Gen Cert.Proof
open Idealize.ShloMosaic.Pipeline (Dat Cfg Window)

variable (m : (ℓ : Loc nD τ sig) → Buf (Elt Ideal) ℓ) (ρ : Dev nD → PrngReg)

/-- The scores of the launched arguments. -/
def scoreOf (c : Dev nD) : ℕ → Fin 512 → EReal :=
  score (m ((c : Thread nD τ).loc main_arg0)) (m ((c : Thread nD τ).loc main_arg1)) (m ((c : Thread nD τ).loc main_arg2))

theorem V_main_v0 (c : Dev nD) (r : Fin 512) (d : Fin 768) : V m c main_v0 (ix2 r d) =
    m ((c : Thread nD τ).loc main_arg0) (ix3 (⟨r.val / 128, by omega⟩ : Fin 4) (⟨r.val % 128, by omega⟩ : Fin 128) d) := by
  entry_read
  refine shapeCast_apply _ _ _ _ ?_
  show ((⟨3, ![4, 128, 768]⟩ : Shape).rowMajor (ix3 _ _ d)).val = ((⟨2, ![512, 768]⟩ : Shape).rowMajor (ix2 r d)).val
  rw [Shape.rowMajor_val_three, Shape.rowMajor_val_two]
  show (r.val / 128 * 128 + r.val % 128) * 768 + d.val = r.val * 768 + d.val
  omega

theorem V_main_v1 (c : Dev nD) (n : Fin 491520) : V m c main_v1 (ix2 0 n) =
    m ((c : Thread nD τ).loc main_arg2) (ix1 n) := by
  entry_read
  refine shapeCast_apply _ _ _ _ ?_
  show ((⟨1, ![491520]⟩ : Shape).rowMajor (ix1 n)).val = ((⟨2, ![1, 491520]⟩ : Shape).rowMajor (ix2 0 n)).val
  rw [Shape.rowMajor_val_one, Shape.rowMajor_val_two]
  show n.val = 0 * 491520 + n.val
  omega

/-- One score of the reference's block. -/
theorem pay1_apply (x0 : Vec Ideal S512x768 .bf16) (x1 : Vec Ideal S491520x768 .i8) (x2 : Vec Ideal S1x491520 .f32)
    (r : Fin 512) (n : Fin 491520) :
    k0_pay1 (F := Ideal) x0 x1 x2 (ix2 r n) =
      (∑ d : Fin 768, (FloatOps.sitofp (F := Ideal) .bf16 (x1 (ix2 n d)) : EReal) * (x0 (ix2 r d) : EReal)) *
        (x2 (ix2 0 n) : EReal) := by
  unfold k0_pay1
  dsimp only
  rw [mulf_apply]
  refine congrArg₂ (· * ·) ?_ ?_
  · refine (Ideal.matmul_plain_apply (φ₁ := .bf16) (φ₂ := .bf16) none _ _ _ r n).trans ?_
    have h0 : (constant S512x491520 .f32 0x00000000#32 : FVec Ideal S512x491520 .f32) (ix2 r n) = (0 : EReal) :=
      Ideal.ofBits_zero_f32
    rw [h0, zero_add]
    refine Finset.sum_congr rfl fun d _ => ?_
    rw [shapeCast_self, transpose_apply _ _ _ _ (ix2 n d : S491520x768.Idx) (by intro a; fin_cases a <;> rfl)]
    exact mul_comm (G := EReal) _ _
  · rw [shapeCast_self]
    exact broadcastTo_apply _ _ _ _ (by intro a; fin_cases a <;> rfl)

theorem idx_facts : ∀ t : Fin cfg0.N, win0_0.index t = ![0, 0] ∧ win0_1.index t = ![0, 0] ∧ win0_2.index t = ![0, 0] ∧
    win0_3.index t = ![0, 0] := (by decide +kernel : ∀ t : Fin grid0.N, _)

theorem iblk0 (c : Dev nD) (t : Fin cfg0.N) (r : Fin 512) (d : Fin 768) :
    iblk m c 0 t (ix2 r d) = V m c main_v0 (ix2 r d) := by
  blk_ext [iblk, (idx_facts t).1]

theorem iblk1 (c : Dev nD) (t : Fin cfg0.N) (n : Fin 491520) (d : Fin 768) :
    iblk m c 1 t (ix2 n d) = V m c main_arg1 (ix2 n d) := by
  blk_ext [iblk, (idx_facts t).2.1]

theorem iblk2 (c : Dev nD) (t : Fin cfg0.N) (n : Fin 491520) :
    iblk m c 2 t (ix2 0 n) = V m c main_v1 (ix2 0 n) := by
  blk_ext [iblk, (idx_facts t).2.2.1]

/-- The scores of a block of all the arguments. -/
theorem block_apply (c : Dev nD) (t : Fin cfg0.N) (r : Fin 512) (n : Fin 491520) :
    k0_pay1 (F := Ideal) (iblk m c 0 t) (iblk m c 1 t) (iblk m c 2 t) (ix2 r n) = scoreOf m c n.val r := by
  refine (pay1_apply _ _ _ r n).trans ?_
  unfold scoreOf score
  rw [dif_pos n.isLt]
  refine congrArg₂ (· * ·) (Finset.sum_congr rfl fun d _ => congrArg₂ (· * ·) ?_ ?_) ?_
  · exact congrArg _ ((iblk1 m c t n d).trans (congrFun (V_main_arg1 m c) _))
  · exact (iblk0 m c t r d).trans (V_main_v0 m c r d)
  · exact (iblk2 m c t n).trans (V_main_v1 m c n)

/-- The array of scores. -/
theorem scores_eq (c : Dev nD) : (dats m 0 c).arrAt 3 cfg0.N = fun i : S512x491520.Idx => scoreOf m c (i 1).val (i 0) := by
  refine (dats m 0 c).arrAt_eq_of_covers 3 _ (by decide +kernel) fun t hf y => ?_
  have hy : y = ix2 (y 0 : Fin 512) (y 1 : Fin 491520) := by
    funext a; fin_cases a <;> rfl
  have e : (((cfg0.win 3).blk t).view.emb y : S512x491520.Idx) = ix2 (y 0 : Fin 512) (y 1 : Fin 491520) := by
    blk_ext [(idx_facts t).2.2.2]
  blk_simp
  rw [after0_3]
  frame_out
  refine (congrArg (k0_pay1 (F := Ideal) (iblk m c 0 t) (iblk m c 1 t) (iblk m c 2 t)) hy).trans ?_
  refine (block_apply m c t _ _).trans ?_
  have e1 : win0_3.index t 1 * 491520 + (y 1).val = (y 1).val := by
    have e0 : win0_3.index t 1 = 0 := congrFun (idx_facts t).2.2.2 1
    rw [e0, Nat.zero_mul, Nat.zero_add]
  exact congrArg₂ (scoreOf m c) e1.symm (congrFun e 0).symm

/-- What the reference's result array ends with. -/
def result (c : Dev nD) : Buf (Elt Ideal) ((c : Thread nD τ).loc main_values) :=
  (Host.topK S512x100 1 (FloatOps.cmpfTotal (F := Ideal) (φ := .f32) .gt)
    (fun i : S512x491520.Idx => scoreOf m c (i 1).val (i 0)) sliceFits_S512x491520_S512x100).1

theorem tail_eq (c : Dev nD) :
    Pipeline.afterTail₀ cfgs (dats m) 0 (V0 m) [hostOps1] c main_values = result m c := by
  unfold Pipeline.afterTail₀
  show StableHlo.after hostOps1 _ (Proc.devRef .tc main_values) = _
  after_results
  have h := (Pipeline.withArrays_arr spec0 launch0.win.arr_inj c (V0 m c) (fun w => (dats m 0 c).arrAt w cfg0.N) 3).trans
    (scores_eq m c)
  exact congrArg (fun x => (Host.topK S512x100 1 (FloatOps.cmpfTotal (F := Ideal) (φ := .f32) .gt) x
    sliceFits_S512x491520_S512x100).1) h

/-- Row by row, its entries are the largest scores in order. -/
theorem result_spec (c : Dev nD) (r : Fin 512) (j : Fin 100) (t : EReal) :
    t ≤ result m c (ix2 r j) ↔ j.val < cnt 491520 (fun n => scoreOf m c n r) t := by
  refine (topK_apply (R := 512) (N := 491520) (K := 100) _ sliceFits_S512x491520_S512x100 (by decide) r j t).trans ?_
  refine iff_of_eq (congrArg (j.val < ·) (cnt_congr (fun n hn => ?_) t))
  rw [dif_pos hn]

/-- The reference's run. -/
theorem run : θ_run defs (onTc (τ := τ) (main (F := Ideal))) ⟨m, fun _ => 0, ρ⟩ (fun r => ∀ c : Dev nD,
      r.2.mem ((c.tc : Thread nD τ).loc main_values) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).2 main_values (Pipeline.mem_restRefs_of main_values (by decide) (by decide))).trans
    (tail_eq m c), h.2 c⟩) (θ_run_and (run_main m ρ) (unchanged m ρ))

end Cert.Proof.Reference
-- ==== Proof.Equal.lean ====
/- The two programs leave the same result: every entry of either is the same threshold of the same scores. -/
module

public import proofs.«01_k».proof.Defs
public import proofs.«01_k».proof.Proof.Grid
public import proofs.«01_k».proof.Proof.Reference

@[expose] public section

set_option maxRecDepth 16384

noncomputable section

namespace Cert.Proof

open Idealize.ShloMosaic hiding ix1 ix2 ix3 mulf_apply
open Idealize.ShloMosaic.ValueIdx Idealize.ShloMosaic.TcCoe Idealize.SL.Sem

/-- The entries the lists start with count for nothing above `-∞`, and everything is at least `-∞`. -/
theorem eq_of_counts (a b : EReal) (j n : ℕ) (f : ℕ → EReal)
    (ha : ∀ t, t ≤ a ↔ j < 8 * emptyCount t + cnt n f t) (hb : ∀ t, t ≤ b ↔ j < cnt n f t) : b = a := by
  refine eq_of_forall_le_iff fun t => ?_
  by_cases h : t ≤ ⊥
  · exact ⟨fun _ => h.trans bot_le, fun _ => h.trans bot_le⟩
  · rw [ha, hb, emptyCount, if_neg h, Nat.mul_zero, Nat.zero_add]

theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hs : Reference.scoreOf m' c = scoreOf m c) :
    (Reference.result m' c : Vec Ideal ⟨2, ![512, 100]⟩ .f32) = Cert.KernelIdeal.Value.G3 m c := by
  funext y
  obtain ⟨r, j, rfl⟩ : ∃ (r : Fin 512) (j : Fin 100), y = ix2 r j := ⟨y 0, y 1, (ix2_eta y).symm⟩
  have hb := Reference.result_spec m' c r j
  rw [hs] at hb
  exact eq_of_counts _ _ _ _ _ (result_spec m c r j) hb

theorem algebraic : Cert.algebraic_KernelIdeal_ReferenceIdeal := by
  intro m g m' g' _ hagree
  refine ⟨fun c => Cert.KernelIdeal.Value.G3 m c, Cert.KernelIdeal.Value.run m g, ?_⟩
  refine (θ_run _ _ _).mono (fun r h c => ⟨(h c).1.trans (result_eq m m' c ?_), (h c).2⟩) (Reference.run m' g')
  obtain ⟨h0, h1, h2⟩ := hagree c
  unfold Reference.scoreOf scoreOf
  rw [h0, h1, h2]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, fun m ρ _ => Cert.Kernel.Gen.frame m ρ,
  fun m ρ _ => Cert.KernelIdeal.Gen.frame m ρ, fun m ρ _ => Cert.ReferenceIdeal.Gen.frame m ρ, trivial, algebraic⟩

end Cert.Proof

end
